-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S3x256x32 : Shape := ⟨3, ![3, 256, 32]⟩
abbrev S_ : Shape := ⟨0, ![]⟩

class Facts : Prop where
  bcast_S_S16384x768 : S_.BroadcastsInDim S16384x768 (![] : Fin 0 → Fin S16384x768.rank)
  bcast_S_S768x512 : S_.BroadcastsInDim S768x512 (![] : Fin 0 → Fin S768x512.rank)
  bcast_S_S512x256 : S_.BroadcastsInDim S512x256 (![] : Fin 0 → Fin S512x256.rank)
  bcast_S_S256x128 : S_.BroadcastsInDim S256x128 (![] : Fin 0 → Fin S256x128.rank)
  bcast_S_S128x32 : S_.BroadcastsInDim S128x32 (![] : Fin 0 → Fin S128x32.rank)
  bcast_S_S3x256x32 : S_.BroadcastsInDim S3x256x32 (![] : Fin 0 → Fin S3x256x32.rank)
  bcast_S_S512 : S_.BroadcastsInDim S512 (![] : Fin 0 → Fin S512.rank)
  bcast_S_S256 : S_.BroadcastsInDim S256 (![] : Fin 0 → Fin S256.rank)
  bcast_S_S128 : S_.BroadcastsInDim S128 (![] : Fin 0 → Fin S128.rank)
  bcast_S_S32 : S_.BroadcastsInDim S32 (![] : Fin 0 → Fin S32.rank)
  bcast_S_S768 : S_.BroadcastsInDim S768 (![] : Fin 0 → Fin S768.rank)

variable [Facts]

def fn_part1 {F : FTy → Type} [FloatOps F] (main_arg2 : FVec F S512 .f32) (main_arg4 : FVec F S256 .f32) (main_arg6 : FVec F S128 .f32) (main_arg8 : FVec F S32 .f32) (main_arg10 : FVec F S128 .f32) (main_arg12 : FVec F S256 .f32) (main_arg14 : FVec F S512 .f32) (main_arg16 : FVec F S768 .f32) (main_v2 : IVec S16384x768 1) (main_v5 : IVec S768x512 1) (main_v8 : IVec S512x256 1) (main_v11 : IVec S256x128 1) (main_v14 : IVec S128x32 1) (main_v17 : IVec S3x256x32 1) : IVec S16384x768 1 × IVec S768x512 1 × IVec S512x256 1 × IVec S256x128 1 × IVec S128x32 1 × IVec S3x256x32 1 × IVec S512 1 × IVec S256 1 × IVec S128 1 × IVec S32 1 × IVec S128 1 × IVec S256 1 × IVec S512 1 × IVec S768 1 :=
  let main_cst_5 : FVec F S_ .f32 := constant S_ .f32 0x00000000#32
  let main_v18 : FVec F S512 .f32 := broadcastInDim S512 ![] bcast_S_S512 main_cst_5
  let main_v19 : IVec S512 1 := cmpf .oeq main_arg2 main_v18
  let main_cst_6 : FVec F S_ .f32 := constant S_ .f32 0x00000000#32
  let main_v20 : FVec F S256 .f32 := broadcastInDim S256 ![] bcast_S_S256 main_cst_6
  let main_v21 : IVec S256 1 := cmpf .oeq main_arg4 main_v20
  let main_cst_7 : FVec F S_ .f32 := constant S_ .f32 0x00000000#32
  let main_v22 : FVec F S128 .f32 := broadcastInDim S128 ![] bcast_S_S128 main_cst_7
  let main_v23 : IVec S128 1 := cmpf .oeq main_arg6 main_v22
  let main_cst_8 : FVec F S_ .f32 := constant S_ .f32 0x00000000#32
  let main_v24 : FVec F S32 .f32 := broadcastInDim S32 ![] bcast_S_S32 main_cst_8
  let main_v25 : IVec S32 1 := cmpf .oeq main_arg8 main_v24
  let main_cst_9 : FVec F S_ .f32 := constant S_ .f32 0x00000000#32
  let main_v26 : FVec F S128 .f32 := broadcastInDim S128 ![] bcast_S_S128 main_cst_9
  let main_v27 : IVec S128 1 := cmpf .oeq main_arg10 main_v26
  let main_cst_10 : FVec F S_ .f32 := constant S_ .f32 0x00000000#32
  let main_v28 : FVec F S256 .f32 := broadcastInDim S256 ![] bcast_S_S256 main_cst_10
  let main_v29 : IVec S256 1 := cmpf .oeq main_arg12 main_v28
  let main_cst_11 : FVec F S_ .f32 := constant S_ .f32 0x00000000#32
  let main_v30 : FVec F S512 .f32 := broadcastInDim S512 ![] bcast_S_S512 main_cst_11
  let main_v31 : IVec S512 1 := cmpf .oeq main_arg14 main_v30
  let main_cst_12 : FVec F S_ .f32 := constant S_ .f32 0x00000000#32
  let main_v32 : FVec F S768 .f32 := broadcastInDim S768 ![] bcast_S_S768 main_cst_12
  let main_v33 : IVec S768 1 := cmpf .oeq main_arg16 main_v32
  (main_v2, main_v5, main_v8, main_v11, main_v14, main_v17, main_v19, main_v21, main_v23, main_v25, main_v27, main_v29, main_v31, main_v33)

def fn {F : FTy → Type} [FloatOps F] (main_arg0 : FVec F S16384x768 .f32) (main_arg1 : FVec F S768x512 .f32) (main_arg2 : FVec F S512 .f32) (main_arg3 : FVec F S512x256 .f32) (main_arg4 : FVec F S256 .f32) (main_arg5 : FVec F S256x128 .f32) (main_arg6 : FVec F S128 .f32) (main_arg7 : FVec F S128x32 .f32) (main_arg8 : FVec F S32 .f32) (main_arg9 : FVec F S32x128 .f32) (main_arg10 : FVec F S128 .f32) (main_arg11 : FVec F S128x256 .f32) (main_arg12 : FVec F S256 .f32) (main_arg13 : FVec F S256x512 .f32) (main_arg14 : FVec F S512 .f32) (main_arg15 : FVec F S512x768 .f32) (main_arg16 : FVec F S768 .f32) (main_arg17 : FVec F S3x256x32 .f32) : IVec S16384x768 1 × IVec S768x512 1 × IVec S512x256 1 × IVec S256x128 1 × IVec S128x32 1 × IVec S3x256x32 1 × IVec S512 1 × IVec S256 1 × IVec S128 1 × IVec S32 1 × IVec S128 1 × IVec S256 1 × IVec S512 1 × IVec S768 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S512x256 .f32 := Host.absf main_arg3
  let main_cst_1 : FVec F S_ .f32 := constant S_ .f32 0x7F800000#32
  let main_v7 : FVec F S512x256 .f32 := broadcastInDim S512x256 ![] bcast_S_S512x256 main_cst_1
  let main_v8 : IVec S512x256 1 := cmpf .olt main_v6 main_v7
  let main_v9 : FVec F S256x128 .f32 := Host.absf main_arg5
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_v12 : FVec F S128x32 .f32 := Host.absf main_arg7
  let main_cst_3 : FVec F S_ .f32 := constant S_ .f32 0x7F800000#32
  let main_v13 : FVec F S128x32 .f32 := broadcastInDim S128x32 ![] bcast_S_S128x32 main_cst_3
  let main_v14 : IVec S128x32 1 := cmpf .olt main_v12 main_v13
  let main_v15 : FVec F S3x256x32 .f32 := Host.absf main_arg17
  let main_cst_4 : FVec F S_ .f32 := constant S_ .f32 0x7F800000#32
  let main_v16 : FVec F S3x256x32 .f32 := broadcastInDim S3x256x32 ![] bcast_S_S3x256x32 main_cst_4
  let main_v17 : IVec S3x256x32 1 := cmpf .olt main_v15 main_v16
  fn_part1 (F := F) main_arg2 main_arg4 main_arg6 main_arg8 main_arg10 main_arg12 main_arg14 main_arg16 main_v2 main_v5 main_v8 main_v11 main_v14 main_v17
-- ==== Kernel.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S3x256x32 : Shape := ⟨3, ![3, 256, 32]⟩
abbrev S16384x3 : Shape := ⟨2, ![16384, 3]⟩
abbrev S1x1 : Shape := ⟨2, ![1, 1]⟩
abbrev S2048x768 : Shape := ⟨2, ![2048, 768]⟩
abbrev S2048x3 : Shape := ⟨2, ![2048, 3]⟩
abbrev S3x32x256 : Shape := ⟨3, ![3, 32, 256]⟩
abbrev S3x3x256x32 : Shape := ⟨4, ![3, 3, 256, 32]⟩
abbrev S3x1x256 : Shape := ⟨3, ![3, 1, 256]⟩
abbrev S1x256x32 : Shape := ⟨3, ![1, 256, 32]⟩
abbrev S256x32 : Shape := ⟨2, ![256, 32]⟩
abbrev S32x256 : Shape := ⟨2, ![32, 256]⟩
abbrev S1x32x256 : Shape := ⟨3, ![1, 32, 256]⟩
abbrev S1x256 : Shape := ⟨2, ![1, 256]⟩
abbrev S1x1x256 : Shape := ⟨3, ![1, 1, 256]⟩
abbrev S1x1x256x32 : Shape := ⟨4, ![1, 1, 256, 32]⟩
abbrev S512x512 : Shape := ⟨2, ![512, 512]⟩
abbrev S512x128 : Shape := ⟨2, ![512, 128]⟩
abbrev S512x32 : Shape := ⟨2, ![512, 32]⟩
abbrev S1x3x256x32 : Shape := ⟨4, ![1, 3, 256, 32]⟩
abbrev S768x32 : Shape := ⟨2, ![768, 32]⟩
abbrev S512x1 : Shape := ⟨2, ![512, 1]⟩
abbrev S1x512x32 : Shape := ⟨3, ![1, 512, 32]⟩
abbrev S1 : Shape := ⟨1, ![1]⟩
abbrev S1x1x1 : Shape := ⟨3, ![1, 1, 1]⟩
abbrev S512x3 : Shape := ⟨2, ![512, 3]⟩

abbrev nBuf : Space → Nat
  | .hbm => 21
  | .vmem => 27
  | .smem => 0
  | _ => 0

abbrev bufTy : (tb : Table) → Fin (tcTables nBuf tb) → BufTy
  | .hbm, ⟨0, _⟩ => ⟨S16384x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x512, .f32⟩
  | .hbm, ⟨14, _⟩ => ⟨S512, .f32⟩
  | .hbm, ⟨15, _⟩ => ⟨S512x768, .f32⟩
  | .hbm, ⟨16, _⟩ => ⟨S768, .f32⟩
  | .hbm, ⟨17, _⟩ => ⟨S3x256x32, .f32⟩
  | .hbm, ⟨18, _⟩ => ⟨S16384x768, .f32⟩
  | .hbm, ⟨19, _⟩ => ⟨S16384x3, .i32⟩
  | .hbm, ⟨20, _⟩ => ⟨S1x1, .f32⟩
  | .local _ .vmem, ⟨0, _⟩ => ⟨S2048x768, .f32⟩
  | .local _ .vmem, ⟨1, _⟩ => ⟨S2048x768, .f32⟩
  | .local _ .vmem, ⟨2, _⟩ => ⟨S768x512, .f32⟩
  | .local _ .vmem, ⟨3, _⟩ => ⟨S512x256, .f32⟩
  | .local _ .vmem, ⟨4, _⟩ => ⟨S256x128, .f32⟩
  | .local _ .vmem, ⟨5, _⟩ => ⟨S128x32, .f32⟩
  | .local _ .vmem, ⟨6, _⟩ => ⟨S32x128, .f32⟩
  | .local _ .vmem, ⟨7, _⟩ => ⟨S128x256, .f32⟩
  | .local _ .vmem, ⟨8, _⟩ => ⟨S256x512, .f32⟩
  | .local _ .vmem, ⟨9, _⟩ => ⟨S512x768, .f32⟩
  | .local _ .vmem, ⟨10, _⟩ => ⟨S3x256x32, .f32⟩
  | .local _ .vmem, ⟨11, _⟩ => ⟨S2048x768, .f32⟩
  | .local _ .vmem, ⟨12, _⟩ => ⟨S2048x768, .f32⟩
  | .local _ .vmem, ⟨13, _⟩ => ⟨S2048x3, .i32⟩
  | .local _ .vmem, ⟨14, _⟩ => ⟨S2048x3, .i32⟩
  | .local _ .vmem, ⟨15, _⟩ => ⟨S1x1, .f32⟩
  | .local _ .vmem, ⟨16, _⟩ => ⟨S768x512, .bf16⟩
  | .local _ .vmem, ⟨17, _⟩ => ⟨S512x256, .bf16⟩
  | .local _ .vmem, ⟨18, _⟩ => ⟨S256x128, .bf16⟩
  | .local _ .vmem, ⟨19, _⟩ => ⟨S128x32, .bf16⟩
  | .local _ .vmem, ⟨20, _⟩ => ⟨S32x128, .bf16⟩
  | .local _ .vmem, ⟨21, _⟩ => ⟨S128x256, .bf16⟩
  | .local _ .vmem, ⟨22, _⟩ => ⟨S256x512, .bf16⟩
  | .local _ .vmem, ⟨23, _⟩ => ⟨S512x768, .bf16⟩
  | .local _ .vmem, ⟨24, _⟩ => ⟨S3x32x256, .bf16⟩
  | .local _ .vmem, ⟨25, _⟩ => ⟨S3x3x256x32, .bf16⟩
  | .local _ .vmem, ⟨26, _⟩ => ⟨S3x1x256, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x3 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S3x256x32 : Shape := ⟨3, ![3, 256, 32]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x32 : Shape := ⟨2, ![16384, 32]⟩
abbrev S1x32 : Shape := ⟨2, ![1, 32]⟩
abbrev S1x256x32 : Shape := ⟨3, ![1, 256, 32]⟩
abbrev S256x32 : Shape := ⟨2, ![256, 32]⟩
abbrev S16384 : Shape := ⟨1, ![16384]⟩
abbrev S16384x1 : Shape := ⟨2, ![16384, 1]⟩
abbrev S32x256 : Shape := ⟨2, ![32, 256]⟩
abbrev S1 : Shape := ⟨1, ![1]⟩
abbrev S1x1 : Shape := ⟨2, ![1, 1]⟩
abbrev S16384x3 : Shape := ⟨2, ![16384, 3]⟩
abbrev S1x768 : Shape := ⟨2, ![1, 768]⟩

abbrev nBuf : Space → Nat
  | .hbm => 277
  | .vmem => 0
  | .smem => 0
  | _ => 0

abbrev hbmTy0_0 (i : Nat) : BufTy := match i % 128 with
  | 0 => ⟨S16384x768, .f32⟩
  | 1 => ⟨S768x512, .f32⟩
  | 2 => ⟨S512, .f32⟩
  | 3 => ⟨S512x256, .f32⟩
  | 4 => ⟨S256, .f32⟩
  | 5 => ⟨S256x128, .f32⟩
  | 6 => ⟨S128, .f32⟩
  | 7 => ⟨S128x32, .f32⟩
  | 8 => ⟨S32, .f32⟩
  | 9 => ⟨S32x128, .f32⟩
  | 10 => ⟨S128, .f32⟩
  | 11 => ⟨S128x256, .f32⟩
  | 12 => ⟨S256, .f32⟩
  | 13 => ⟨S256x512, .f32⟩
  | 14 => ⟨S512, .f32⟩
  | 15 => ⟨S512x768, .f32⟩
  | 16 => ⟨S768, .f32⟩
  | 17 => ⟨S3x256x32, .f32⟩
  | 18 => ⟨S16384x512, .f32⟩
  | 19 => ⟨S1x512, .f32⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S16384x256, .f32⟩
  | 26 => ⟨S1x256, .f32⟩
  | 27 => ⟨S16384x256, .f32⟩
  | 28 => ⟨S16384x256, .f32⟩
  | 29 => ⟨S_, .f32⟩
  | 30 => ⟨S16384x256, .f32⟩
  | 31 => ⟨S16384x256, .f32⟩
  | 32 => ⟨S16384x128, .f32⟩
  | 33 => ⟨S1x128, .f32⟩
  | 34 => ⟨S16384x128, .f32⟩
  | 35 => ⟨S16384x128, .f32⟩
  | 36 => ⟨S_, .f32⟩
  | 37 => ⟨S16384x128, .f32⟩
  | 38 => ⟨S16384x128, .f32⟩
  | 39 => ⟨S16384x32, .f32⟩
  | 40 => ⟨S1x32, .f32⟩
  | 41 => ⟨S16384x32, .f32⟩
  | 42 => ⟨S16384x32, .f32⟩
  | 43 => ⟨S_, .f32⟩
  | 44 => ⟨S16384x32, .f32⟩
  | 45 => ⟨S1x256x32, .f32⟩
  | 46 => ⟨S256x32, .f32⟩
  | 47 => ⟨S16384x32, .f32⟩
  | 48 => ⟨S_, .f32⟩
  | 49 => ⟨S16384, .f32⟩
  | 50 => ⟨S16384x1, .f32⟩
  | 51 => ⟨S_, .f32⟩
  | 52 => ⟨S16384x32, .f32⟩
  | 53 => ⟨S16384x32, .f32⟩
  | 54 => ⟨S32x256, .f32⟩
  | 55 => ⟨S16384x256, .f32⟩
  | 56 => ⟨S16384x256, .f32⟩
  | 57 => ⟨S16384x256, .f32⟩
  | 58 => ⟨S256x32, .f32⟩
  | 59 => ⟨S_, .f32⟩
  | 60 => ⟨S256, .f32⟩
  | 61 => ⟨S1x256, .f32⟩
  | 62 => ⟨S16384x256, .f32⟩
  | 63 => ⟨S16384x256, .f32⟩
  | 64 => ⟨S16384x256, .i32⟩
  | 65 => ⟨S_, .f32⟩
  | 66 => ⟨S_, .i32⟩
  | 67 => ⟨S16384, .f32⟩
  | 68 => ⟨S16384, .i32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S1, .i32⟩
  | 78 => ⟨S_, .i32⟩
  | 79 => ⟨S16384x1, .i32⟩
  | 80 => ⟨S16384x1, .i1⟩
  | 81 => ⟨S1x1, .i32⟩
  | 82 => ⟨S16384x1, .i32⟩
  | 83 => ⟨S16384x1, .i1⟩
  | 84 => ⟨S16384x1, .i1⟩
  | 85 => ⟨S_, .i1⟩
  | 86 => ⟨S16384, .i1⟩
  | 87 => ⟨S16384x32, .f32⟩
  | 88 => ⟨S16384x32, .i1⟩
  | 89 => ⟨S_, .f32⟩
  | 90 => ⟨S16384x32, .f32⟩
  | 91 => ⟨S16384x32, .f32⟩
  | 92 => ⟨S16384x32, .f32⟩
  | 93 => ⟨S16384x32, .f32⟩
  | 94 => ⟨S_, .f32⟩
  | 95 => ⟨S_, .f32⟩
  | 96 => ⟨S_, .f32⟩
  | 97 => ⟨S_, .f32⟩
  | 98 => ⟨S16384x32, .f32⟩
  | 99 => ⟨S16384x32, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S16384x32, .f32⟩
  | 110 => ⟨S16384x32, .f32⟩
  | 111 => ⟨S16384x32, .f32⟩
  | 112 => ⟨S16384x32, .f32⟩
  | 113 => ⟨S1x256x32, .f32⟩
  | 114 => ⟨S256x32, .f32⟩
  | 115 => ⟨S16384x32, .f32⟩
  | 116 => ⟨S_, .f32⟩
  | 117 => ⟨S16384, .f32⟩
  | 118 => ⟨S16384x1, .f32⟩
  | 119 => ⟨S_, .f32⟩
  | 120 => ⟨S16384x32, .f32⟩
  | 121 => ⟨S16384x32, .f32⟩
  | 122 => ⟨S32x256, .f32⟩
  | 123 => ⟨S16384x256, .f32⟩
  | 124 => ⟨S16384x256, .f32⟩
  | 125 => ⟨S16384x256, .f32⟩
  | 126 => ⟨S256x32, .f32⟩
  | 127 => ⟨S_, .f32⟩
  | _ => ⟨S16384x768, .f32⟩

abbrev hbmTy0_1 (i : Nat) : BufTy := match i % 128 with
  | 0 => ⟨S256, .f32⟩
  | 1 => ⟨S1x256, .f32⟩
  | 2 => ⟨S16384x256, .f32⟩
  | 3 => ⟨S16384x256, .f32⟩
  | 4 => ⟨S16384x256, .i32⟩
  | 5 => ⟨S_, .f32⟩
  | 6 => ⟨S_, .i32⟩
  | 7 => ⟨S16384, .f32⟩
  | 8 => ⟨S16384, .i32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S1, .i32⟩
  | 18 => ⟨S_, .i32⟩
  | 19 => ⟨S16384x1, .i32⟩
  | 20 => ⟨S16384x1, .i1⟩
  | 21 => ⟨S1x1, .i32⟩
  | 22 => ⟨S16384x1, .i32⟩
  | 23 => ⟨S16384x1, .i1⟩
  | 24 => ⟨S16384x1, .i1⟩
  | 25 => ⟨S_, .i1⟩
  | 26 => ⟨S16384, .i1⟩
  | 27 => ⟨S16384x32, .f32⟩
  | 28 => ⟨S16384x32, .i1⟩
  | 29 => ⟨S_, .f32⟩
  | 30 => ⟨S16384x32, .f32⟩
  | 31 => ⟨S16384x32, .f32⟩
  | 32 => ⟨S16384x32, .f32⟩
  | 33 => ⟨S16384x32, .f32⟩
  | 34 => ⟨S_, .f32⟩
  | 35 => ⟨S_, .f32⟩
  | 36 => ⟨S_, .f32⟩
  | 37 => ⟨S_, .f32⟩
  | 38 => ⟨S16384x32, .f32⟩
  | 39 => ⟨S16384x32, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S16384x32, .f32⟩
  | 49 => ⟨S16384x32, .f32⟩
  | 50 => ⟨S16384x32, .f32⟩
  | 51 => ⟨S16384x32, .f32⟩
  | 52 => ⟨S1x256x32, .f32⟩
  | 53 => ⟨S256x32, .f32⟩
  | 54 => ⟨S16384x32, .f32⟩
  | 55 => ⟨S_, .f32⟩
  | 56 => ⟨S16384, .f32⟩
  | 57 => ⟨S16384x1, .f32⟩
  | 58 => ⟨S_, .f32⟩
  | 59 => ⟨S16384x32, .f32⟩
  | 60 => ⟨S16384x32, .f32⟩
  | 61 => ⟨S32x256, .f32⟩
  | 62 => ⟨S16384x256, .f32⟩
  | 63 => ⟨S16384x256, .f32⟩
  | 64 => ⟨S16384x256, .f32⟩
  | 65 => ⟨S256x32, .f32⟩
  | 66 => ⟨S_, .f32⟩
  | 67 => ⟨S256, .f32⟩
  | 68 => ⟨S1x256, .f32⟩
  | 69 => ⟨S16384x256, .f32⟩
  | 70 => ⟨S16384x256, .f32⟩
  | 71 => ⟨S16384x256, .i32⟩
  | 72 => ⟨S_, .f32⟩
  | 73 => ⟨S_, .i32⟩
  | 74 => ⟨S16384, .f32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S1, .i32⟩
  | 85 => ⟨S_, .i32⟩
  | 86 => ⟨S16384x1, .i32⟩
  | 87 => ⟨S16384x1, .i1⟩
  | 88 => ⟨S1x1, .i32⟩
  | 89 => ⟨S16384x1, .i32⟩
  | 90 => ⟨S16384x1, .i1⟩
  | 91 => ⟨S16384x1, .i1⟩
  | 92 => ⟨S_, .i1⟩
  | 93 => ⟨S16384, .i1⟩
  | 94 => ⟨S16384x32, .f32⟩
  | 95 => ⟨S16384x32, .i1⟩
  | 96 => ⟨S_, .f32⟩
  | 97 => ⟨S16384x32, .f32⟩
  | 98 => ⟨S16384x32, .f32⟩
  | 99 => ⟨S16384x32, .f32⟩
  | 100 => ⟨S16384x32, .f32⟩
  | 101 => ⟨S_, .f32⟩
  | 102 => ⟨S_, .f32⟩
  | 103 => ⟨S_, .f32⟩
  | 104 => ⟨S_, .f32⟩
  | 105 => ⟨S16384x32, .f32⟩
  | 106 => ⟨S16384x32, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S16384x32, .f32⟩
  | 116 => ⟨S16384x32, .f32⟩
  | 117 => ⟨S16384x32, .f32⟩
  | 118 => ⟨S16384x32, .f32⟩
  | 119 => ⟨S16384x1, .i32⟩
  | 120 => ⟨S16384x1, .i32⟩
  | 121 => ⟨S16384x1, .i32⟩
  | 122 => ⟨S16384x3, .i32⟩
  | 123 => ⟨S16384x128, .f32⟩
  | 124 => ⟨S1x128, .f32⟩
  | 125 => ⟨S16384x128, .f32⟩
  | 126 => ⟨S16384x128, .f32⟩
  | 127 => ⟨S_, .f32⟩
  | _ => ⟨S16384x768, .f32⟩

abbrev hbmTy0_2 (i : Nat) : BufTy := match i % 128 with
  | 0 => ⟨S16384x128, .f32⟩
  | 1 => ⟨S16384x128, .f32⟩
  | 2 => ⟨S16384x256, .f32⟩
  | 3 => ⟨S1x256, .f32⟩
  | 4 => ⟨S16384x256, .f32⟩
  | 5 => ⟨S16384x256, .f32⟩
  | 6 => ⟨S_, .f32⟩
  | 7 => ⟨S16384x256, .f32⟩
  | 8 => ⟨S16384x256, .f32⟩
  | 9 => ⟨S16384x512, .f32⟩
  | 10 => ⟨S1x512, .f32⟩
  | 11 => ⟨S16384x512, .f32⟩
  | 12 => ⟨S16384x512, .f32⟩
  | 13 => ⟨S_, .f32⟩
  | 14 => ⟨S16384x512, .f32⟩
  | 15 => ⟨S16384x512, .f32⟩
  | 16 => ⟨S16384x768, .f32⟩
  | 17 => ⟨S1x768, .f32⟩
  | 18 => ⟨S16384x768, .f32⟩
  | 19 => ⟨S16384x768, .f32⟩
  | 20 => ⟨S1x1, .f32⟩
  | _ => ⟨S16384x768, .f32⟩

abbrev hbmTy (i : Nat) : BufTy := match i / 128 with
  | 0 => hbmTy0_0 i
  | 1 => hbmTy0_1 i
  | 2 => hbmTy0_2 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call0_v0 : Ref sig .tc := ⟨.hbm, 64, rfl⟩
abbrev main_call0_cst : Ref sig .tc := ⟨.hbm, 65, rfl⟩
abbrev main_call0_c : Ref sig .tc := ⟨.hbm, 66, rfl⟩
abbrev main_call0_v1_0 : Ref sig .tc := ⟨.hbm, 67, rfl⟩
abbrev main_v39 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_6 : Ref sig .tc := ⟨.hbm, 94, rfl⟩
abbrev main_v43 : Ref sig .tc := ⟨.hbm, 95, rfl⟩
abbrev main_cst_7 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_8 : Ref sig .tc := ⟨.hbm, 100, rfl⟩
abbrev main_v47 : Ref sig .tc := ⟨.hbm, 101, rfl⟩
abbrev main_cst_9 : Ref sig .tc := ⟨.hbm, 102, rfl⟩
abbrev main_v48 : Ref sig .tc := ⟨.hbm, 103, rfl⟩
abbrev main_cst_10 : Ref sig .tc := ⟨.hbm, 104, rfl⟩
abbrev main_v49 : Ref sig .tc := ⟨.hbm, 105, rfl⟩
abbrev main_cst_11 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_12 : Ref sig .tc := ⟨.hbm, 116, rfl⟩
abbrev main_v59 : Ref sig .tc := ⟨.hbm, 117, rfl⟩
abbrev main_v60 : Ref sig .tc := ⟨.hbm, 118, rfl⟩
abbrev main_cst_13 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_cst_14 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_call2_v0 : Ref sig .tc := ⟨.hbm, 132, rfl⟩
abbrev main_call2_cst : Ref sig .tc := ⟨.hbm, 133, rfl⟩
abbrev main_call2_c : Ref sig .tc := ⟨.hbm, 134, rfl⟩
abbrev main_call2_v1_0 : Ref sig .tc := ⟨.hbm, 135, rfl⟩
abbrev main_v72 : Ref sig .tc := ⟨.hbm, 136, rfl⟩
abbrev main_call3_c : Ref sig .tc := ⟨.hbm, 137, rfl⟩
abbrev main_call3_v0 : Ref sig .tc := ⟨.hbm, 138, rfl⟩
abbrev main_call3_v1 : Ref sig .tc := ⟨.hbm, 139, rfl⟩
abbrev main_call3_c_0 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_c_1 : Ref sig .tc := ⟨.hbm, 145, rfl⟩
abbrev main_call3_c_2 : Ref sig .tc := ⟨.hbm, 146, rfl⟩
abbrev main_call3_v6 : Ref sig .tc := ⟨.hbm, 147, rfl⟩
abbrev main_call3_v7 : Ref sig .tc := ⟨.hbm, 148, rfl⟩
abbrev main_call3_v8 : Ref sig .tc := ⟨.hbm, 149, rfl⟩
abbrev main_call3_v9 : Ref sig .tc := ⟨.hbm, 150, rfl⟩
abbrev main_call3_v10 : Ref sig .tc := ⟨.hbm, 151, rfl⟩
abbrev main_call3_v11 : Ref sig .tc := ⟨.hbm, 152, rfl⟩
abbrev main_call3_c_3 : Ref sig .tc := ⟨.hbm, 153, rfl⟩
abbrev main_call3_v12 : Ref sig .tc := ⟨.hbm, 154, rfl⟩
abbrev main_call3_v13 : Ref sig .tc := ⟨.hbm, 155, rfl⟩
abbrev main_call3_v14 : Ref sig .tc := ⟨.hbm, 156, rfl⟩
abbrev main_call3_cst : Ref sig .tc := ⟨.hbm, 157, rfl⟩
abbrev main_call3_v15 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_cst_15 : Ref sig .tc := ⟨.hbm, 162, rfl⟩
abbrev main_v76 : Ref sig .tc := ⟨.hbm, 163, rfl⟩
abbrev main_cst_16 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_cst_17 : Ref sig .tc := ⟨.hbm, 168, rfl⟩
abbrev main_v80 : Ref sig .tc := ⟨.hbm, 169, rfl⟩
abbrev main_cst_18 : Ref sig .tc := ⟨.hbm, 170, rfl⟩
abbrev main_v81 : Ref sig .tc := ⟨.hbm, 171, rfl⟩
abbrev main_v82 : Ref sig .tc := ⟨.hbm, 172, rfl⟩
abbrev main_cst_19 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_cst_20 : Ref sig .tc := ⟨.hbm, 183, rfl⟩
abbrev main_v92 : Ref sig .tc := ⟨.hbm, 184, rfl⟩
abbrev main_v93 : Ref sig .tc := ⟨.hbm, 185, rfl⟩
abbrev main_cst_21 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_cst_22 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_call4_v0 : Ref sig .tc := ⟨.hbm, 199, rfl⟩
abbrev main_call4_cst : Ref sig .tc := ⟨.hbm, 200, rfl⟩
abbrev main_call4_c : Ref sig .tc := ⟨.hbm, 201, rfl⟩
abbrev main_call4_v1_0 : Ref sig .tc := ⟨.hbm, 202, rfl⟩
abbrev main_v105 : Ref sig .tc := ⟨.hbm, 203, rfl⟩
abbrev main_call5_c : Ref sig .tc := ⟨.hbm, 204, rfl⟩
abbrev main_call5_v0 : Ref sig .tc := ⟨.hbm, 205, rfl⟩
abbrev main_call5_v1 : Ref sig .tc := ⟨.hbm, 206, rfl⟩
abbrev main_call5_c_0 : Ref sig .tc := ⟨.hbm, 207, rfl⟩
abbrev main_call5_v2 : Ref sig .tc := ⟨.hbm, 208, rfl⟩
abbrev main_call5_v3 : Ref sig .tc := ⟨.hbm, 209, rfl⟩
abbrev main_call5_v4 : Ref sig .tc := ⟨.hbm, 210, rfl⟩
abbrev main_call5_v5 : Ref sig .tc := ⟨.hbm, 211, rfl⟩
abbrev main_call5_c_1 : Ref sig .tc := ⟨.hbm, 212, rfl⟩
abbrev main_call5_c_2 : Ref sig .tc := ⟨.hbm, 213, rfl⟩
abbrev main_call5_v6 : Ref sig .tc := ⟨.hbm, 214, rfl⟩
abbrev main_call5_v7 : Ref sig .tc := ⟨.hbm, 215, rfl⟩
abbrev main_call5_v8 : Ref sig .tc := ⟨.hbm, 216, rfl⟩
abbrev main_call5_v9 : Ref sig .tc := ⟨.hbm, 217, rfl⟩
abbrev main_call5_v10 : Ref sig .tc := ⟨.hbm, 218, rfl⟩
abbrev main_call5_v11 : Ref sig .tc := ⟨.hbm, 219, rfl⟩
abbrev main_call5_c_3 : Ref sig .tc := ⟨.hbm, 220, rfl⟩
abbrev main_call5_v12 : Ref sig .tc := ⟨.hbm, 221, rfl⟩
abbrev main_call5_v13 : Ref sig .tc := ⟨.hbm, 222, rfl⟩
abbrev main_call5_v14 : Ref sig .tc := ⟨.hbm, 223, rfl⟩
abbrev main_call5_cst : Ref sig .tc := ⟨.hbm, 224, rfl⟩
abbrev main_call5_v15 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_cst_23 : Ref sig .tc := ⟨.hbm, 229, rfl⟩
abbrev main_v109 : Ref sig .tc := ⟨.hbm, 230, rfl⟩
abbrev main_cst_24 : Ref sig .tc := ⟨.hbm, 231, rfl⟩
abbrev main_v110 : Ref sig .tc := ⟨.hbm, 232, rfl⟩
abbrev main_v111 : Ref sig .tc := ⟨.hbm, 233, rfl⟩
abbrev main_v112 : Ref sig .tc := ⟨.hbm, 234, rfl⟩
abbrev main_cst_25 : Ref sig .tc := ⟨.hbm, 235, rfl⟩
abbrev main_v113 : Ref sig .tc := ⟨.hbm, 236, rfl⟩
abbrev main_cst_26 : Ref sig .tc := ⟨.hbm, 237, rfl⟩
abbrev main_v114 : Ref sig .tc := ⟨.hbm, 238, rfl⟩
abbrev main_v115 : Ref sig .tc := ⟨.hbm, 239, rfl⟩
abbrev main_cst_27 : Ref sig .tc := ⟨.hbm, 240, rfl⟩
abbrev main_v116 : Ref sig .tc := ⟨.hbm, 241, rfl⟩
abbrev main_v117 : Ref sig .tc := ⟨.hbm, 242, rfl⟩
abbrev main_v118 : Ref sig .tc := ⟨.hbm, 243, rfl⟩
abbrev main_v119 : Ref sig .tc := ⟨.hbm, 244, rfl⟩
abbrev main_v120 : Ref sig .tc := ⟨.hbm, 245, rfl⟩
abbrev main_v121 : Ref sig .tc := ⟨.hbm, 246, rfl⟩
abbrev main_v122 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩
abbrev main_cst_28 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_cst_29 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_cst_30 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_v145 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩

abbrev nD : Nat := 1
abbrev τ : Topo := Topo.v7x

variable {F : FTy → Type} [FloatOps F]
-- ==== Proof.RefOps.lean ====
/- The reference's host operations as one list, its run, and the list cut into five stages: the encoder, the three
   quantization rounds, the decoder. -/
module

public import proofs.«01_k».proof.ReferenceIdeal
public import proofs.«01_k».proof.Proof.Gen.ReferenceIdeal
public import Idealize.ShloMosaic.Lib.Claim
public import Idealize.ShloMosaic.Lib.StableHlo.RunRead
public import Idealize.ShloMosaic.Lib.Pipeline.Frame
public import Idealize.ShloMosaic.PureOps.Ideal

@[expose] public section

set_option maxRecDepth 16384

noncomputable section

namespace Cert.ReferenceIdeal.Hand

open Idealize.ShloMosaic Idealize.ShloMosaic.StableHlo Idealize.SL.Sem Cert.ReferenceIdeal Cert.ReferenceIdeal.Gen

/-- The operations of the reference, in order, with the proof that they are its program. -/
def opsOf : {ops : List (HloOp τ sig (Elt Ideal)) // ∀ d, IsSeq (main (F := Ideal) d) ops} := by
  apply Subtype.mk; hlo_seq

/-- The operations of the reference, in order. -/
def ops : List (HloOp τ sig (Elt Ideal)) := opsOf.1

theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_hlo _ _ opsOf.2 (by decide) (by decide) (by simp [opsOf])
    (by intro _ h; (repeat (cases h with | head => rfl | tail _ h => ?_)); exact nomatch h) m ρ

/-- No operation writes an argument. -/
theorem args_eq (V : Valuation τ sig (Elt Ideal)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5)
      ∧ after ops V (Proc.devRef .tc main_arg6) = V (Proc.devRef .tc main_arg6)
      ∧ after ops V (Proc.devRef .tc main_arg7) = V (Proc.devRef .tc main_arg7)
      ∧ after ops V (Proc.devRef .tc main_arg8) = V (Proc.devRef .tc main_arg8)
      ∧ after ops V (Proc.devRef .tc main_arg9) = V (Proc.devRef .tc main_arg9)
      ∧ after ops V (Proc.devRef .tc main_arg10) = V (Proc.devRef .tc main_arg10)
      ∧ after ops V (Proc.devRef .tc main_arg11) = V (Proc.devRef .tc main_arg11)
      ∧ after ops V (Proc.devRef .tc main_arg12) = V (Proc.devRef .tc main_arg12)
      ∧ after ops V (Proc.devRef .tc main_arg13) = V (Proc.devRef .tc main_arg13)
      ∧ after ops V (Proc.devRef .tc main_arg14) = V (Proc.devRef .tc main_arg14)
      ∧ after ops V (Proc.devRef .tc main_arg15) = V (Proc.devRef .tc main_arg15)
      ∧ after ops V (Proc.devRef .tc main_arg16) = V (Proc.devRef .tc main_arg16)
      ∧ after ops V (Proc.devRef .tc main_arg17) = V (Proc.devRef .tc main_arg17) := by
  refine ⟨?_, ?_, ?_, ?_, ?_, ?_, ?_, ?_, ?_, ?_, ?_, ?_, ?_, ?_, ?_, ?_, ?_, ?_⟩ <;> after_reads_simp

/-- The reference's run leaves every argument as it was. -/
theorem unchanged (m : (ℓ : Loc nD τ sig) → Buf (Elt Ideal) ℓ) (c : Dev nD) {r : PUnit × MemSt nD τ sig (Elt Ideal)}
    (h : ∀ (d : Dev nD) (b : Ref sig .tc), r.2.mem ((d.tc : Thread nD τ).loc b) = after ops (launchContents m d) (Proc.devRef .tc b)) :
    r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17) := by
  simp only [h]
  exact args_eq (launchContents m c)

end Cert.ReferenceIdeal.Hand

end
-- ==== Proof.Rows.lean ====
module
public import Idealize.ShloMosaic.PureOps.Ideal
public import Idealize.ShloMosaic.Lib.Pointwise

/-! The mathematics of one row: a chain of matrix products, and one round of choosing the nearest code word. -/

@[expose] public section

noncomputable section

namespace Cert.Rows

open Idealize.ShloMosaic

/-- A row of `n` numbers. -/
abbrev Row (n : Nat) := Fin n → EReal
/-- A matrix as a family of rows. -/
abbrev Mat (n k : Nat) := Fin n → Row k

/-- A rank-2 array read as a family of rows. -/
def mat {n k : Nat} (v : (⟨2, ![n, k]⟩ : Shape).Idx → EReal) : Mat n k := fun i j => v (ix2 i j)

/-- The one slab of a rank-3 array with a single leading entry. -/
def slab {n k : Nat} (v : (⟨3, ![1, n, k]⟩ : Shape).Idx → EReal) : Mat n k := fun i j => v (ix3 0 i j)
/-- Three tables, stored one behind the other, stacked. -/
def stack (v : (⟨4, ![1, 3, 256, 32]⟩ : Shape).Idx → EReal) : Mat 768 32 := fun i j =>
  v (ix4 0 ⟨i.val / 256, by omega⟩ ⟨i.val % 256, Nat.mod_lt _ (by norm_num)⟩ j)

/-- Row times matrix. -/
def lin {n k : Nat} (W : Mat n k) (x : Row n) : Row k := fun j => ∑ i, x i * W i j
/-- Negative entries become zero. -/
def relu {n : Nat} (x : Row n) : Row n := fun j => max (x j) 0
/-- The sum of the squares of a row. -/
def ssq {n : Nat} (x : Row n) : EReal := ∑ j, x j * x j
/-- Entrywise difference. -/
def sub {n : Nat} (x y : Row n) : Row n := fun j => x j - y j
/-- Entrywise sum. -/
def add {n : Nat} (x y : Row n) : Row n := fun j => x j + y j

/-- The encoder of one row. -/
def enc (W0 : Mat 768 512) (W1 : Mat 512 256) (W2 : Mat 256 128) (W3 : Mat 128 32) (x : Row 768) : Row 32 :=
  lin W3 (relu (lin W2 (relu (lin W1 (relu (lin W0 x))))))
/-- The decoder of one row. -/
def dec (V0 : Mat 32 128) (V1 : Mat 128 256) (V2 : Mat 256 512) (V3 : Mat 512 768) (x : Row 32) : Row 768 :=
  lin V3 (relu (lin V2 (relu (lin V1 (relu (lin V0 x))))))

/-- The kernel's distances of a row to the code words: the squared length of the row, a product with a prepared
matrix, a prepared offset. -/
def kdist (cbt : Mat 32 256) (cbn : Row 256) (r : Row 32) : Row 256 := fun k => ssq r + lin cbt r k + cbn k
/-- The smallest entry. -/
def low (d : Row 256) : EReal := Finset.univ.fold min ⊤ fun k => d k
/-- The first number where `x` is at most `m`, the second elsewhere. -/
def within (x m a b : EReal) : EReal := @ite _ (x ≤ m) (Classical.propDecidable _) a b
theorem ite_within (x m a b : EReal) [Decidable (x ≤ m)] : (if x ≤ m then a else b) = within x m a b := by
  unfold within; split <;> simp_all
/-- The least position, as a number, whose entry is at most `m`; 256 where there is none. -/
def spot (d : Row 256) (m : EReal) : EReal := Finset.univ.fold min ⊤ fun k => within (d k) m ((k.val : ℝ) : EReal) ((256 : ℝ) : EReal)
/-- One where the two numbers agree, zero elsewhere. -/
def same (a c : EReal) : EReal := @ite _ (a = c) (Classical.propDecidable _) 1 0
theorem ite_same (a c : EReal) [Decidable (a = c)] : (if a = c then (1 : EReal) else 0) = same a c := by
  unfold same; split <;> simp_all
/-- One at position `c`, zero elsewhere. -/
def hot (c : EReal) : Row 256 := fun k => same ((k.val : ℝ) : EReal) c
/-- A row three times over. -/
def thrice (h : Row 256) : Row 768 := fun k => h ⟨k.val % 256, Nat.mod_lt _ (by norm_num)⟩
/-- What a one-hot row picks of three stacked tables. -/
def word (cbs : Mat 768 32) (h : Row 256) : Row 32 := lin cbs (thrice h)

/-- The chosen position of a row in one round, as a number. -/
def code (cbt : Mat 32 256) (cbn : Row 256) (r : Row 32) : EReal := spot (kdist cbt cbn r) (low (kdist cbt cbn r))
/-- The chosen code word of a row in one round. -/
def pickw (cbt : Mat 32 256) (cbn : Row 256) (cbs : Mat 768 32) (r : Row 32) : Row 32 := word cbs (hot (code cbt cbn r))
/-- What a round leaves of a row. -/
def rest (cbt : Mat 32 256) (cbn : Row 256) (cbs : Mat 768 32) (r : Row 32) : Row 32 := sub r (pickw cbt cbn cbs r)

/-- The tables a tile is computed from: encoder and decoder weights, and for each round the prepared product table,
the prepared offsets and the stacked code words. -/
structure Par where
  w0 : Mat 768 512
  w1 : Mat 512 256
  w2 : Mat 256 128
  w3 : Mat 128 32
  u0 : Mat 32 128
  u1 : Mat 128 256
  u2 : Mat 256 512
  u3 : Mat 512 768
  t0 : Mat 32 256
  t1 : Mat 32 256
  t2 : Mat 32 256
  n0 : Row 256
  n1 : Row 256
  n2 : Row 256
  s0 : Mat 768 32
  s1 : Mat 768 32
  s2 : Mat 768 32

namespace Par

variable (P : Par) (x : Row 768)

/-- The encoded row. -/
def r0 : Row 32 := enc P.w0 P.w1 P.w2 P.w3 x
/-- What the first round leaves. -/
def r1 : Row 32 := rest P.t0 P.n0 P.s0 (P.r0 x)
/-- What the second round leaves. -/
def r2 : Row 32 := rest P.t1 P.n1 P.s1 (P.r1 x)
/-- What the third round leaves. -/
def r3 : Row 32 := rest P.t2 P.n2 P.s2 (P.r2 x)
/-- The sum of the chosen code words. -/
def xq : Row 32 :=
  add (add (add (fun _ => 0) (pickw P.t0 P.n0 P.s0 (P.r0 x))) (pickw P.t1 P.n1 P.s1 (P.r1 x))) (pickw P.t2 P.n2 P.s2 (P.r2 x))
/-- The reconstructed row. -/
def out : Row 768 := dec P.u0 P.u1 P.u2 P.u3 (P.xq x)
/-- The three chosen positions. -/
def ind : Row 3 := ![code P.t0 P.n0 (P.r0 x), code P.t1 P.n1 (P.r1 x), code P.t2 P.n2 (P.r2 x)]
/-- The sum of squares left by the first round over a block of rows. -/
def l1 (X : Mat 512 768) : EReal := ∑ p : Fin 512, ssq (P.r1 (X p))
/-- The same for the second round. -/
def l2 (X : Mat 512 768) : EReal := ∑ p : Fin 512, ssq (P.r2 (X p))
/-- The same for the third round. -/
def l3 (X : Mat 512 768) : EReal := ∑ p : Fin 512, ssq (P.r3 (X p))
/-- The sum of squares over four blocks and three rounds, in the order in which it is added up. -/
def sum4 (A B C D : Mat 512 768) : EReal :=
  ((0 + P.l1 A + P.l1 B + P.l1 C + P.l1 D) + P.l2 A + P.l2 B + P.l2 C + P.l2 D) + P.l3 A + P.l3 B + P.l3 C + P.l3 D

end Par

end Cert.Rows

end
end
-- ==== Proof.RefLeast.lean ====
module
public import proofs.«01_k».proof.Proof.RefOps
public import proofs.«01_k».proof.Proof.Rows
public import Idealize.ShloMosaic.Lib.StableHlo.ReadAt

/-! The reference's search for the nearest code word, and its table lookup. -/

@[expose] public section

set_option maxRecDepth 16384

noncomputable section

namespace Cert.Rows

/-- Position `k` holds the smallest entry, and is the first to. -/
def Least (d : Row 256) (k : Fin 256) : Prop := ∀ l, d k < d l ∨ (d k = d l ∧ k.val ≤ l.val)

end Cert.Rows

namespace Cert.ReferenceIdeal.Hand

open Idealize.ShloMosaic Idealize.ShloMosaic.StableHlo Idealize.SL.Sem Cert.ReferenceIdeal Cert.ReferenceIdeal.Gen Cert.Rows

/-- The order the search goes by: values first, then positions read as signed numbers. -/
def before (a b : EReal × BitVec 32) : Prop := a.1 < b.1 ∨ (a.1 = b.1 ∧ a.2.toInt ≤ b.2.toInt)

theorem before_refl (a : EReal × BitVec 32) : before a a := Or.inr ⟨rfl, le_refl _⟩
theorem before_trans {a b c : EReal × BitVec 32} (h : before a b) (g : before b c) : before a c := by
  rcases h with h | ⟨h, h'⟩ <;> rcases g with g | ⟨g, g'⟩
  · exact Or.inl (h.trans g)
  · exact Or.inl (h.trans_eq g)
  · exact Or.inl (h.trans_lt g)
  · exact Or.inr ⟨h.trans g, h'.trans g'⟩

/-- One step of the search keeps one of its two pairs, the one that goes before the other. -/
theorem step_spec (a b : EReal × BitVec 32) :
    (reducer_argmin_f32_i32 (F := Ideal) a b = a ∨ reducer_argmin_f32_i32 (F := Ideal) a b = b)
      ∧ before (reducer_argmin_f32_i32 (F := Ideal) a b) a ∧ before (reducer_argmin_f32_i32 (F := Ideal) a b) b := by
  obtain ⟨x, u⟩ := a
  obtain ⟨y, v⟩ := b
  have hd : reducer_argmin_f32_i32 (F := Ideal) (x, u) (y, v)
      = (if x < y then x else y, if x < y ∨ (x = y ∧ u.toInt < v.toInt) then u else v) := by
    have hs : BitVec.slt u v = decide (u.toInt < v.toInt) := rfl
    unfold reducer_argmin_f32_i32
    simp only [Ideal.cmpf_def, Ideal.cmp, IntOp.cmpi, hs]
    by_cases h1 : x < y
    · have h2 : x ≠ y := h1.ne
      simp [h1, h2, IntOp.ori, IntOp.andi, Scalar.select]
    · by_cases h2 : x = y
      · by_cases h3 : u.toInt < v.toInt
        · simp [h2, h3, IntOp.ori, IntOp.andi, Scalar.select]
        · simp [h2, h3, IntOp.ori, IntOp.andi, Scalar.select]
      · simp [h1, h2, IntOp.ori, IntOp.andi, Scalar.select]
  rw [hd]
  rcases lt_trichotomy x y with h | h | h
  · simp [h, before]
  · subst h
    by_cases h3 : u.toInt < v.toInt
    · simp [h3, before, h3.le]
    · simp [h3, before, not_lt.mp h3]
  · simp [not_lt.mpr h.le, h.ne', before, h]

/-- The search over a list ends in one of the pairs it met, and that one goes before all of them. -/
theorem search_spec (L : List (EReal × BitVec 32)) (a : EReal × BitVec 32) :
    (L.foldl (reducer_argmin_f32_i32 (F := Ideal)) a = a ∨ L.foldl (reducer_argmin_f32_i32 (F := Ideal)) a ∈ L)
      ∧ before (L.foldl (reducer_argmin_f32_i32 (F := Ideal)) a) a
      ∧ ∀ q ∈ L, before (L.foldl (reducer_argmin_f32_i32 (F := Ideal)) a) q := by
  induction L generalizing a with
  | nil => exact ⟨Or.inl rfl, before_refl _, fun q h => absurd h List.not_mem_nil⟩
  | cons b L ih =>
    obtain ⟨h1, h2, h3⟩ := ih (reducer_argmin_f32_i32 (F := Ideal) a b)
    obtain ⟨g1, g2, g3⟩ := step_spec a b
    refine ⟨?_, before_trans h2 g2, ?_⟩
    · rcases h1 with h1 | h1
      · rcases g1 with g1 | g1
        · exact Or.inl (h1.trans g1)
        · exact Or.inr (by rw [List.foldl_cons, h1, g1]; exact List.mem_cons_self)
      · exact Or.inr (List.mem_cons_of_mem _ h1)
    · intro q hq
      rcases List.mem_cons.mp hq with rfl | hq
      · exact before_trans h2 g3
      · exact h3 q hq

theorem toInt_small (k : Fin 256) : (BitVec.ofNat 32 k.val).toInt = (k.val : ℤ) := by
  have := k.isLt
  rw [BitVec.toInt_eq_toNat_cond]
  simp only [BitVec.toNat_ofNat]
  rw [Nat.mod_eq_of_lt (by omega)]
  split <;> omega

/-- The search along a row of distances finds the first of the smallest. -/
theorem argmin_spec (x : Vec Ideal S16384x256 .f32) (u : EReal × BitVec 32) (h : S16384x256.ReducesTo [1] S16384) (p : Fin 16384)
    (hu : u = (⊤, 0#32)) :
    ∃ k : Fin 256, Least (mat (n := 16384) (k := 256) x p) k ∧
      (List.foldl (reducer_argmin_f32_i32 (F := Ideal)) u
        (Host.argReduceFiber x (iotaInDim S16384x256 32 1) h (ix1 p))).2 = BitVec.ofNat 32 k.val := by
  have hm : ∀ q, q ∈ Host.argReduceFiber x (iotaInDim S16384x256 32 1) h (ix1 p)
      ↔ ∃ k : Fin 256, q = (mat (n := 16384) (k := 256) x p k, BitVec.ofNat 32 k.val) := by
    intro q
    unfold Host.argReduceFiber
    rw [List.mem_map]
    constructor
    · rintro ⟨n, hn, rfl⟩
      have hn := (List.mem_filter.mp hn).2
      rw [decide_eq_true_iff] at hn
      obtain ⟨k, hk⟩ := (h.fiber_r2_a1 (n0 := 16384) (n1 := 256) _ _).mp hn
      refine ⟨k, ?_⟩
      rw [← hk]
      rfl
    · rintro ⟨k, rfl⟩
      refine ⟨S16384x256.rowMajor (ix2 p k), List.mem_filter.mpr ⟨List.mem_finRange _, ?_⟩, ?_⟩
      · rw [decide_eq_true_iff, Equiv.symm_apply_apply]
        exact (h.fiber_r2_a1 (n0 := 16384) (n1 := 256) _ _).mpr ⟨k, rfl⟩
      · rw [Equiv.symm_apply_apply]
        rfl
  subst hu
  obtain ⟨h1, h2, h3⟩ := search_spec (Host.argReduceFiber x (iotaInDim S16384x256 32 1) h (ix1 p)) (⊤, 0#32)
  generalize hL : List.foldl (reducer_argmin_f32_i32 (F := Ideal)) (⊤, 0#32)
    (Host.argReduceFiber x (iotaInDim S16384x256 32 1) h (ix1 p)) = res at *
  have hall : ∀ l : Fin 256, before res (mat (n := 16384) (k := 256) x p l, BitVec.ofNat 32 l.val) :=
    fun l => h3 _ ((hm _).mpr ⟨l, rfl⟩)
  rcases h1 with rfl | h1
  · refine ⟨0, fun l => Or.inr ⟨?_, Nat.zero_le _⟩, rfl⟩
    have ht : ∀ l : Fin 256, mat (n := 16384) (k := 256) x p l = ⊤ := by
      intro l
      rcases hall l with h | ⟨h, _⟩
      · exact absurd h not_top_lt
      · exact h.symm
    rw [ht, ht]
  · obtain ⟨k, rfl⟩ := (hm _).mp h1
    refine ⟨k, fun l => ?_, rfl⟩
    rcases hall l with h | ⟨h, h'⟩
    · exact Or.inl h
    · refine Or.inr ⟨h, ?_⟩
      simp only [toInt_small] at h'
      exact_mod_cast h'

/-- The table lookup at a row: the row of the table at the start index, held within the table. -/
theorem gather_row (x : Vec Ideal S256x32 .f32) (idx : IVec S16384x1 32) (p : Fin 16384) (j : Fin 32) :
    Host.gather gather_S256x32_S16384x1_S16384x32_1_0_n_n_0_1_132 x idx (ix2 p j)
      = x (ix2 (n0 := 256) (n1 := 32) ⟨min (idx (ix2 (n0 := 16384) (n1 := 1) p 0)).toInt.toNat 255, by omega⟩ j) := by
  unfold Host.gather
  congr 1
  funext a
  refine Fin.ext ?_
  show gather_S256x32_S16384x1_S16384x32_1_0_n_n_0_1_132.start (ix2 p j) idx a
      + gather_S256x32_S16384x1_S16384x32_1_0_n_n_0_1_132.batchCoord (ix2 p j) a
      + gather_S256x32_S16384x1_S16384x32_1_0_n_n_0_1_132.offCoord (ix2 p j) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _
      (fun h => ((GatherDims.mem_sKept _ _).mp h).1 (List.mem_singleton.mpr rfl)), Nat.add_zero]
    unfold GatherDims.start
    rw [dif_pos (show (0 : Fin 2) ∈ gather_S256x32_S16384x1_S16384x32_1_0_n_n_0_1_132.startIndexMap from
      List.mem_singleton.mpr rfl)]
    have hsi : gather_S256x32_S16384x1_S16384x32_1_0_n_n_0_1_132.siIdx (ix2 p j)
        ⟨List.idxOf (0 : Fin 2) gather_S256x32_S16384x1_S16384x32_1_0_n_n_0_1_132.startIndexMap,
          List.idxOf_lt_length_iff.2 (List.mem_singleton.mpr rfl)⟩ = ix2 (n0 := 16384) (n1 := 1) p 0 := by
      funext b
      refine Fin.ext ?_
      match b with
      | ⟨0, _⟩ => rfl
      | ⟨1, _⟩ => rfl
    rw [hsi]
    rfl
  · unfold GatherDims.start
    rw [dif_neg (show ¬ (1 : Fin 2) ∈ gather_S256x32_S16384x1_S16384x32_1_0_n_n_0_1_132.startIndexMap from
      (by decide : ¬ (1 : Fin 2) ∈ [(0 : Fin 2)])), Nat.zero_add]
    rfl

end Cert.ReferenceIdeal.Hand

end
end
-- ==== Proof.RefRead.lean ====
module
public import proofs.«01_k».proof.Proof.RefLeast

/-! The reference's steps read one stretch at a time, from whatever the buffers held before. -/

@[expose] public section

set_option maxRecDepth 16384

noncomputable section

namespace Cert.Rows

open Idealize.ShloMosaic

/-- The reference's distances of a row to the code words. -/
def refd (cb : Mat 256 32) (r : Row 32) : Row 256 := fun k =>
  (0 + ssq r) - (0 + ∑ i, Ideal.ofBits FTy.f32 0x40000000#32 * r i * cb k i) + (0 + ∑ i, cb k i * cb k i)
/-- A sum of squared differences over all rows, divided by how many there are. -/
def meansq (R E : Mat 16384 32) : EReal :=
  Ideal.div (0 + ∑ p, ∑ j, (R p j - E p j) * (R p j - E p j)) (Ideal.ofBits FTy.f32 0x49000000#32)
/-- A round's addition to the loss. -/
def addloss (L : EReal) (R E : Mat 16384 32) : EReal := L + meansq R E + Ideal.ofBits FTy.f32 0x3E800000#32 * meansq R E
/-- The chosen code word as the reference passes it on: reached from the row. -/
def reach (r e : Row 32) : Row 32 := fun j => r j + (e j - r j)

end Cert.Rows

namespace Cert.ReferenceIdeal.Hand

open Idealize.ShloMosaic Idealize.ShloMosaic.StableHlo Idealize.SL.Sem Cert.ReferenceIdeal Cert.ReferenceIdeal.Gen Cert.Rows

variable (W : Valuation τ sig (Elt Ideal))

theorem cut (a b c : Nat) :
    after ((ops.drop a).take (b + c)) W = after ((ops.drop (a + b)).take c) (after ((ops.drop a).take b) W) := by
  rw [List.take_add, List.drop_drop, after_append]

/-- A buffer's contents as a family of rows. -/
abbrev look {n k : Nat} (v : (⟨2, ![n, k]⟩ : Shape).Idx → EReal) : Mat n k := mat v

/-- The lookup's check that a position lies in the table, and its wrapping of negative positions. -/
theorem wrapped : ∀ k : Fin 256, Scalar.select (IntOp.cmpi CmpIPredicate.slt (BitVec.ofNat 32 k.val) 0#32)
    (IntOp.addi (BitVec.ofNat 32 k.val) 256#32) (BitVec.ofNat 32 k.val) = BitVec.ofNat 32 k.val := by
  decide +kernel
theorem inside : ∀ k : Fin 256, IntOp.andi (IntOp.cmpi CmpIPredicate.sge (BitVec.ofNat 32 k.val) 0#32)
    (IntOp.cmpi CmpIPredicate.sle (BitVec.ofNat 32 k.val) 255#32) = 1#1 := by
  decide +kernel
theorem clamped : ∀ k : Fin 256, min (BitVec.ofNat 32 k.val).toInt.toNat 255 = k.val := by
  decide +kernel

theorem ones : Finset.fold IntOp.andi 1#1 (fun _ : Fin 1 => 1#1) Finset.univ = 1#1 := by
  decide

theorem gather_at (x : Vec Ideal S256x32 .f32) (idx : IVec S16384x1 32) (p : Fin 16384) (j : Fin 32) (k : Fin 256)
    (h : idx (ix2 (n0 := 16384) (n1 := 1) p 0) = BitVec.ofNat 32 k.val) :
    Host.gather gather_S256x32_S16384x1_S16384x32_1_0_n_n_0_1_132 x idx (ix2 p j) = x (ix2 (n0 := 256) (n1 := 32) k j) := by
  rw [gather_row]
  refine congrArg (fun q => x (ix2 (n0 := 256) (n1 := 32) q j)) (Fin.ext ?_)
  show min _ _ = _
  rw [h]
  exact clamped k

/-- The word the search starts from is infinity. -/
theorem ofBits_inf : Ideal.ofBits FTy.f32 0x7F800000#32 = ⊤ := by
  simp [Ideal.ofBits, Ideal.ieee]

/-! Round 1. -/

theorem table_0 (k : Fin 256) (j : Fin 32) : ((after ((ops.drop 27).take 19) W) (Proc.devRef .tc main_v24) : Vec Ideal S256x32 .f32) (ix2 k j)
    = ((W) (Proc.devRef .tc main_arg17) : Vec Ideal S3x256x32 .f32) (ix3 0 k j) := by
  after_reads_simp
  simp only [pointwise]
  congr 1
  funext a
  refine Fin.ext ?_
  match a with
  | ⟨0, _⟩ => rfl
  | ⟨1, _⟩ => exact Nat.zero_add _
  | ⟨2, _⟩ => exact Nat.zero_add _

theorem dist_0 (p : Fin 16384) (k : Fin 256) : ((after ((ops.drop 27).take 19) W) (Proc.devRef .tc main_v38) : Vec Ideal S16384x256 .f32) (ix2 p k)
    = refd (fun k j => ((W) (Proc.devRef .tc main_arg17) : Vec Ideal S3x256x32 .f32) (ix3 0 k j)) (mat (n := 16384) (k := 32) (W (Proc.devRef .tc main_v21)) p) k := by
  after_reads_simp
  simp only [pointwise, Ideal.hostReduceAdd_def]
  simp only [Matrix.cons_val_zero, Matrix.cons_val_one, Matrix.cons_val, zero_add, Fin.eta]
  unfold refd ssq mat
  simp only [zero_add]
  rfl

theorem keep_0_a_v21 : after ((ops.drop 27).take 19) W (Proc.devRef .tc main_v21) = W (Proc.devRef .tc main_v21) := by
  after_reads_simp

theorem keep_0_a_v22 : after ((ops.drop 27).take 19) W (Proc.devRef .tc main_v22) = W (Proc.devRef .tc main_v22) := by
  after_reads_simp

theorem keep_0_b_v21 : after ((ops.drop 46).take 5) W (Proc.devRef .tc main_v21) = W (Proc.devRef .tc main_v21) := by
  after_reads_simp

theorem keep_0_b_v22 : after ((ops.drop 46).take 5) W (Proc.devRef .tc main_v22) = W (Proc.devRef .tc main_v22) := by
  after_reads_simp

theorem keep_0_c_v21 : after ((ops.drop 51).take 23) W (Proc.devRef .tc main_v21) = W (Proc.devRef .tc main_v21) := by
  after_reads_simp

theorem keep_0_c_v22 : after ((ops.drop 51).take 23) W (Proc.devRef .tc main_v22) = W (Proc.devRef .tc main_v22) := by
  after_reads_simp

theorem keep_0_b_v24 : after ((ops.drop 46).take 5) W (Proc.devRef .tc main_v24) = W (Proc.devRef .tc main_v24) := by
  after_reads_simp

theorem keep_0_c_v39 : after ((ops.drop 51).take 23) W (Proc.devRef .tc main_v39) = W (Proc.devRef .tc main_v39) := by
  after_reads_simp

theorem keep_0_d_v39 : after ((ops.drop 74).take 21) W (Proc.devRef .tc main_v39) = W (Proc.devRef .tc main_v39) := by
  after_reads_simp

theorem keep_0_w_arg9 : after ((ops.drop 27).take 68) W (Proc.devRef .tc main_arg9) = W (Proc.devRef .tc main_arg9) := by
  after_reads_simp

theorem keep_0_w_arg10 : after ((ops.drop 27).take 68) W (Proc.devRef .tc main_arg10) = W (Proc.devRef .tc main_arg10) := by
  after_reads_simp

theorem keep_0_w_arg11 : after ((ops.drop 27).take 68) W (Proc.devRef .tc main_arg11) = W (Proc.devRef .tc main_arg11) := by
  after_reads_simp

theorem keep_0_w_arg12 : after ((ops.drop 27).take 68) W (Proc.devRef .tc main_arg12) = W (Proc.devRef .tc main_arg12) := by
  after_reads_simp

theorem keep_0_w_arg13 : after ((ops.drop 27).take 68) W (Proc.devRef .tc main_arg13) = W (Proc.devRef .tc main_arg13) := by
  after_reads_simp

theorem keep_0_w_arg14 : after ((ops.drop 27).take 68) W (Proc.devRef .tc main_arg14) = W (Proc.devRef .tc main_arg14) := by
  after_reads_simp

theorem keep_0_w_arg15 : after ((ops.drop 27).take 68) W (Proc.devRef .tc main_arg15) = W (Proc.devRef .tc main_arg15) := by
  after_reads_simp

theorem keep_0_w_arg16 : after ((ops.drop 27).take 68) W (Proc.devRef .tc main_arg16) = W (Proc.devRef .tc main_arg16) := by
  after_reads_simp

theorem keep_0_w_arg17 : after ((ops.drop 27).take 68) W (Proc.devRef .tc main_arg17) = W (Proc.devRef .tc main_arg17) := by
  after_reads_simp

theorem find_0 (p : Fin 16384) : ∃ k : Fin 256, Least (mat (n := 16384) (k := 256) (W (Proc.devRef .tc main_v38)) p) k ∧
    ((after ((ops.drop 46).take 5) W) (Proc.devRef .tc main_v39) : Vec Ideal S16384 .i32) (ix1 p) = BitVec.ofNat 32 k.val := by
  after_reads_simp
  simp -implicitDefEqProofs only [StableHlo.TRef.toBuf, StableHlo.TRef.ofBuf, cast_cast, cast_eq]
  clean_types
  rw [Ideal.argReduce_eq_reduce2, Host.reduce2_eq_foldl_fiber]
  exact argmin_spec _ _ _ p (Prod.ext ofBits_inf rfl)

theorem take_0 (p : Fin 16384) (j : Fin 32) (k : Fin 256) (h : ((W) (Proc.devRef .tc main_v39) : Vec Ideal S16384 .i32) (ix1 p) = BitVec.ofNat 32 k.val) :
    ((after ((ops.drop 51).take 23) W) (Proc.devRef .tc main_v40) : Vec Ideal S16384x32 .f32) (ix2 p j) = ((W) (Proc.devRef .tc main_v24) : Vec Ideal S256x32 .f32) (ix2 k j) := by
  after_reads_simp
  simp -implicitDefEqProofs only [StableHlo.TRef.toBuf, StableHlo.TRef.ofBuf, cast_cast, cast_eq]
  clean_types
  simp only [pointwise]
  simp only [Nat.reduceEqDiff, ↓reduceDIte, h]
  simp only [Nat.reduceEqDiff, ↓reduceDIte, h, wrapped, inside, ones]
  refine gather_at _ _ p j k ?_
  simp only [pointwise]
  simp only [Nat.reduceEqDiff, ↓reduceDIte, h, wrapped]

theorem rest_0 (p : Fin 16384) (j : Fin 32) : ((after ((ops.drop 74).take 21) W) (Proc.devRef .tc main_v55) : Vec Ideal S16384x32 .f32) (ix2 p j)
    = mat (n := 16384) (k := 32) (W (Proc.devRef .tc main_v21)) p j
      - reach (mat (n := 16384) (k := 32) (W (Proc.devRef .tc main_v21)) p) (mat (n := 16384) (k := 32) (W (Proc.devRef .tc main_v40)) p) j := by
  after_reads_simp
  simp only [pointwise]
  rfl

theorem sofar_0 (p : Fin 16384) (j : Fin 32) : ((after ((ops.drop 74).take 21) W) (Proc.devRef .tc main_v54) : Vec Ideal S16384x32 .f32) (ix2 p j)
    = mat (n := 16384) (k := 32) (W (Proc.devRef .tc main_v22)) p j
      + reach (mat (n := 16384) (k := 32) (W (Proc.devRef .tc main_v21)) p) (mat (n := 16384) (k := 32) (W (Proc.devRef .tc main_v40)) p) j := by
  after_reads_simp
  simp only [pointwise]
  rfl

theorem loss_0 : ((after ((ops.drop 74).take 21) W) (Proc.devRef .tc main_v51) : Vec Ideal S_ .f32) ix0
    = addloss 0 (mat (n := 16384) (k := 32) (W (Proc.devRef .tc main_v21))) (mat (n := 16384) (k := 32) (W (Proc.devRef .tc main_v40))) := by
  after_reads_simp
  simp only [pointwise, Ideal.hostReduceAdd_def]
  rfl

/-! Round 2. -/

theorem table_1 (k : Fin 256) (j : Fin 32) : ((after ((ops.drop 95).take 19) W) (Proc.devRef .tc main_v57) : Vec Ideal S256x32 .f32) (ix2 k j)
    = ((W) (Proc.devRef .tc main_arg17) : Vec Ideal S3x256x32 .f32) (ix3 1 k j) := by
  after_reads_simp
  simp only [pointwise]
  congr 1
  funext a
  refine Fin.ext ?_
  match a with
  | ⟨0, _⟩ => rfl
  | ⟨1, _⟩ => exact Nat.zero_add _
  | ⟨2, _⟩ => exact Nat.zero_add _

theorem dist_1 (p : Fin 16384) (k : Fin 256) : ((after ((ops.drop 95).take 19) W) (Proc.devRef .tc main_v71) : Vec Ideal S16384x256 .f32) (ix2 p k)
    = refd (fun k j => ((W) (Proc.devRef .tc main_arg17) : Vec Ideal S3x256x32 .f32) (ix3 1 k j)) (mat (n := 16384) (k := 32) (W (Proc.devRef .tc main_v55)) p) k := by
  after_reads_simp
  simp only [pointwise, Ideal.hostReduceAdd_def]
  simp only [Matrix.cons_val_zero, Matrix.cons_val_one, Matrix.cons_val, zero_add, Fin.eta]
  unfold refd ssq mat
  simp only [zero_add]
  rfl

theorem keep_1_a_v55 : after ((ops.drop 95).take 19) W (Proc.devRef .tc main_v55) = W (Proc.devRef .tc main_v55) := by
  after_reads_simp

theorem keep_1_a_v54 : after ((ops.drop 95).take 19) W (Proc.devRef .tc main_v54) = W (Proc.devRef .tc main_v54) := by
  after_reads_simp

theorem keep_1_a_v51 : after ((ops.drop 95).take 19) W (Proc.devRef .tc main_v51) = W (Proc.devRef .tc main_v51) := by
  after_reads_simp

theorem keep_1_b_v55 : after ((ops.drop 114).take 5) W (Proc.devRef .tc main_v55) = W (Proc.devRef .tc main_v55) := by
  after_reads_simp

theorem keep_1_b_v54 : after ((ops.drop 114).take 5) W (Proc.devRef .tc main_v54) = W (Proc.devRef .tc main_v54) := by
  after_reads_simp

theorem keep_1_b_v51 : after ((ops.drop 114).take 5) W (Proc.devRef .tc main_v51) = W (Proc.devRef .tc main_v51) := by
  after_reads_simp

theorem keep_1_c_v55 : after ((ops.drop 119).take 23) W (Proc.devRef .tc main_v55) = W (Proc.devRef .tc main_v55) := by
  after_reads_simp

theorem keep_1_c_v54 : after ((ops.drop 119).take 23) W (Proc.devRef .tc main_v54) = W (Proc.devRef .tc main_v54) := by
  after_reads_simp

theorem keep_1_c_v51 : after ((ops.drop 119).take 23) W (Proc.devRef .tc main_v51) = W (Proc.devRef .tc main_v51) := by
  after_reads_simp

theorem keep_1_b_v57 : after ((ops.drop 114).take 5) W (Proc.devRef .tc main_v57) = W (Proc.devRef .tc main_v57) := by
  after_reads_simp

theorem keep_1_c_v72 : after ((ops.drop 119).take 23) W (Proc.devRef .tc main_v72) = W (Proc.devRef .tc main_v72) := by
  after_reads_simp

theorem keep_1_d_v72 : after ((ops.drop 142).take 20) W (Proc.devRef .tc main_v72) = W (Proc.devRef .tc main_v72) := by
  after_reads_simp

theorem keep_1_w_arg9 : after ((ops.drop 95).take 67) W (Proc.devRef .tc main_arg9) = W (Proc.devRef .tc main_arg9) := by
  after_reads_simp

theorem keep_1_w_arg10 : after ((ops.drop 95).take 67) W (Proc.devRef .tc main_arg10) = W (Proc.devRef .tc main_arg10) := by
  after_reads_simp

theorem keep_1_w_arg11 : after ((ops.drop 95).take 67) W (Proc.devRef .tc main_arg11) = W (Proc.devRef .tc main_arg11) := by
  after_reads_simp

theorem keep_1_w_arg12 : after ((ops.drop 95).take 67) W (Proc.devRef .tc main_arg12) = W (Proc.devRef .tc main_arg12) := by
  after_reads_simp

theorem keep_1_w_arg13 : after ((ops.drop 95).take 67) W (Proc.devRef .tc main_arg13) = W (Proc.devRef .tc main_arg13) := by
  after_reads_simp

theorem keep_1_w_arg14 : after ((ops.drop 95).take 67) W (Proc.devRef .tc main_arg14) = W (Proc.devRef .tc main_arg14) := by
  after_reads_simp

theorem keep_1_w_arg15 : after ((ops.drop 95).take 67) W (Proc.devRef .tc main_arg15) = W (Proc.devRef .tc main_arg15) := by
  after_reads_simp

theorem keep_1_w_arg16 : after ((ops.drop 95).take 67) W (Proc.devRef .tc main_arg16) = W (Proc.devRef .tc main_arg16) := by
  after_reads_simp

theorem keep_1_w_arg17 : after ((ops.drop 95).take 67) W (Proc.devRef .tc main_arg17) = W (Proc.devRef .tc main_arg17) := by
  after_reads_simp

theorem keep_1_w_v39 : after ((ops.drop 95).take 67) W (Proc.devRef .tc main_v39) = W (Proc.devRef .tc main_v39) := by
  after_reads_simp

theorem find_1 (p : Fin 16384) : ∃ k : Fin 256, Least (mat (n := 16384) (k := 256) (W (Proc.devRef .tc main_v71)) p) k ∧
    ((after ((ops.drop 114).take 5) W) (Proc.devRef .tc main_v72) : Vec Ideal S16384 .i32) (ix1 p) = BitVec.ofNat 32 k.val := by
  after_reads_simp
  simp -implicitDefEqProofs only [StableHlo.TRef.toBuf, StableHlo.TRef.ofBuf, cast_cast, cast_eq]
  clean_types
  rw [Ideal.argReduce_eq_reduce2, Host.reduce2_eq_foldl_fiber]
  exact argmin_spec _ _ _ p (Prod.ext ofBits_inf rfl)

theorem take_1 (p : Fin 16384) (j : Fin 32) (k : Fin 256) (h : ((W) (Proc.devRef .tc main_v72) : Vec Ideal S16384 .i32) (ix1 p) = BitVec.ofNat 32 k.val) :
    ((after ((ops.drop 119).take 23) W) (Proc.devRef .tc main_v73) : Vec Ideal S16384x32 .f32) (ix2 p j) = ((W) (Proc.devRef .tc main_v57) : Vec Ideal S256x32 .f32) (ix2 k j) := by
  after_reads_simp
  simp -implicitDefEqProofs only [StableHlo.TRef.toBuf, StableHlo.TRef.ofBuf, cast_cast, cast_eq]
  clean_types
  simp only [pointwise]
  simp only [Nat.reduceEqDiff, ↓reduceDIte, h]
  simp only [Nat.reduceEqDiff, ↓reduceDIte, h, wrapped, inside, ones]
  refine gather_at _ _ p j k ?_
  simp only [pointwise]
  simp only [Nat.reduceEqDiff, ↓reduceDIte, h, wrapped]

theorem rest_1 (p : Fin 16384) (j : Fin 32) : ((after ((ops.drop 142).take 20) W) (Proc.devRef .tc main_v88) : Vec Ideal S16384x32 .f32) (ix2 p j)
    = mat (n := 16384) (k := 32) (W (Proc.devRef .tc main_v55)) p j
      - reach (mat (n := 16384) (k := 32) (W (Proc.devRef .tc main_v55)) p) (mat (n := 16384) (k := 32) (W (Proc.devRef .tc main_v73)) p) j := by
  after_reads_simp
  simp only [pointwise]
  rfl

theorem sofar_1 (p : Fin 16384) (j : Fin 32) : ((after ((ops.drop 142).take 20) W) (Proc.devRef .tc main_v87) : Vec Ideal S16384x32 .f32) (ix2 p j)
    = mat (n := 16384) (k := 32) (W (Proc.devRef .tc main_v54)) p j
      + reach (mat (n := 16384) (k := 32) (W (Proc.devRef .tc main_v55)) p) (mat (n := 16384) (k := 32) (W (Proc.devRef .tc main_v73)) p) j := by
  after_reads_simp
  simp only [pointwise]
  rfl

theorem loss_1 : ((after ((ops.drop 142).take 20) W) (Proc.devRef .tc main_v84) : Vec Ideal S_ .f32) ix0
    = addloss (((W) (Proc.devRef .tc main_v51) : Vec Ideal S_ .f32) ix0) (mat (n := 16384) (k := 32) (W (Proc.devRef .tc main_v55))) (mat (n := 16384) (k := 32) (W (Proc.devRef .tc main_v73))) := by
  after_reads_simp
  simp only [pointwise, Ideal.hostReduceAdd_def]
  rfl

/-! Round 3. -/

theorem table_2 (k : Fin 256) (j : Fin 32) : ((after ((ops.drop 162).take 19) W) (Proc.devRef .tc main_v90) : Vec Ideal S256x32 .f32) (ix2 k j)
    = ((W) (Proc.devRef .tc main_arg17) : Vec Ideal S3x256x32 .f32) (ix3 2 k j) := by
  after_reads_simp
  simp only [pointwise]
  congr 1
  funext a
  refine Fin.ext ?_
  match a with
  | ⟨0, _⟩ => rfl
  | ⟨1, _⟩ => exact Nat.zero_add _
  | ⟨2, _⟩ => exact Nat.zero_add _

theorem dist_2 (p : Fin 16384) (k : Fin 256) : ((after ((ops.drop 162).take 19) W) (Proc.devRef .tc main_v104) : Vec Ideal S16384x256 .f32) (ix2 p k)
    = refd (fun k j => ((W) (Proc.devRef .tc main_arg17) : Vec Ideal S3x256x32 .f32) (ix3 2 k j)) (mat (n := 16384) (k := 32) (W (Proc.devRef .tc main_v88)) p) k := by
  after_reads_simp
  simp only [pointwise, Ideal.hostReduceAdd_def]
  simp only [Matrix.cons_val_zero, Matrix.cons_val_one, Matrix.cons_val, zero_add, Fin.eta]
  unfold refd ssq mat
  simp only [zero_add]
  rfl

theorem keep_2_a_v88 : after ((ops.drop 162).take 19) W (Proc.devRef .tc main_v88) = W (Proc.devRef .tc main_v88) := by
  after_reads_simp

theorem keep_2_a_v87 : after ((ops.drop 162).take 19) W (Proc.devRef .tc main_v87) = W (Proc.devRef .tc main_v87) := by
  after_reads_simp

theorem keep_2_a_v84 : after ((ops.drop 162).take 19) W (Proc.devRef .tc main_v84) = W (Proc.devRef .tc main_v84) := by
  after_reads_simp

theorem keep_2_b_v88 : after ((ops.drop 181).take 5) W (Proc.devRef .tc main_v88) = W (Proc.devRef .tc main_v88) := by
  after_reads_simp

theorem keep_2_b_v87 : after ((ops.drop 181).take 5) W (Proc.devRef .tc main_v87) = W (Proc.devRef .tc main_v87) := by
  after_reads_simp

theorem keep_2_b_v84 : after ((ops.drop 181).take 5) W (Proc.devRef .tc main_v84) = W (Proc.devRef .tc main_v84) := by
  after_reads_simp

theorem keep_2_c_v88 : after ((ops.drop 186).take 23) W (Proc.devRef .tc main_v88) = W (Proc.devRef .tc main_v88) := by
  after_reads_simp

theorem keep_2_c_v87 : after ((ops.drop 186).take 23) W (Proc.devRef .tc main_v87) = W (Proc.devRef .tc main_v87) := by
  after_reads_simp

theorem keep_2_c_v84 : after ((ops.drop 186).take 23) W (Proc.devRef .tc main_v84) = W (Proc.devRef .tc main_v84) := by
  after_reads_simp

theorem keep_2_b_v90 : after ((ops.drop 181).take 5) W (Proc.devRef .tc main_v90) = W (Proc.devRef .tc main_v90) := by
  after_reads_simp

theorem keep_2_c_v105 : after ((ops.drop 186).take 23) W (Proc.devRef .tc main_v105) = W (Proc.devRef .tc main_v105) := by
  after_reads_simp

theorem keep_2_d_v105 : after ((ops.drop 209).take 20) W (Proc.devRef .tc main_v105) = W (Proc.devRef .tc main_v105) := by
  after_reads_simp

theorem keep_2_w_arg9 : after ((ops.drop 162).take 67) W (Proc.devRef .tc main_arg9) = W (Proc.devRef .tc main_arg9) := by
  after_reads_simp

theorem keep_2_w_arg10 : after ((ops.drop 162).take 67) W (Proc.devRef .tc main_arg10) = W (Proc.devRef .tc main_arg10) := by
  after_reads_simp

theorem keep_2_w_arg11 : after ((ops.drop 162).take 67) W (Proc.devRef .tc main_arg11) = W (Proc.devRef .tc main_arg11) := by
  after_reads_simp

theorem keep_2_w_arg12 : after ((ops.drop 162).take 67) W (Proc.devRef .tc main_arg12) = W (Proc.devRef .tc main_arg12) := by
  after_reads_simp

theorem keep_2_w_arg13 : after ((ops.drop 162).take 67) W (Proc.devRef .tc main_arg13) = W (Proc.devRef .tc main_arg13) := by
  after_reads_simp

theorem keep_2_w_arg14 : after ((ops.drop 162).take 67) W (Proc.devRef .tc main_arg14) = W (Proc.devRef .tc main_arg14) := by
  after_reads_simp

theorem keep_2_w_arg15 : after ((ops.drop 162).take 67) W (Proc.devRef .tc main_arg15) = W (Proc.devRef .tc main_arg15) := by
  after_reads_simp

theorem keep_2_w_arg16 : after ((ops.drop 162).take 67) W (Proc.devRef .tc main_arg16) = W (Proc.devRef .tc main_arg16) := by
  after_reads_simp

theorem keep_2_w_arg17 : after ((ops.drop 162).take 67) W (Proc.devRef .tc main_arg17) = W (Proc.devRef .tc main_arg17) := by
  after_reads_simp

theorem keep_2_w_v39 : after ((ops.drop 162).take 67) W (Proc.devRef .tc main_v39) = W (Proc.devRef .tc main_v39) := by
  after_reads_simp

theorem keep_2_w_v72 : after ((ops.drop 162).take 67) W (Proc.devRef .tc main_v72) = W (Proc.devRef .tc main_v72) := by
  after_reads_simp

theorem find_2 (p : Fin 16384) : ∃ k : Fin 256, Least (mat (n := 16384) (k := 256) (W (Proc.devRef .tc main_v104)) p) k ∧
    ((after ((ops.drop 181).take 5) W) (Proc.devRef .tc main_v105) : Vec Ideal S16384 .i32) (ix1 p) = BitVec.ofNat 32 k.val := by
  after_reads_simp
  simp -implicitDefEqProofs only [StableHlo.TRef.toBuf, StableHlo.TRef.ofBuf, cast_cast, cast_eq]
  clean_types
  rw [Ideal.argReduce_eq_reduce2, Host.reduce2_eq_foldl_fiber]
  exact argmin_spec _ _ _ p (Prod.ext ofBits_inf rfl)

theorem take_2 (p : Fin 16384) (j : Fin 32) (k : Fin 256) (h : ((W) (Proc.devRef .tc main_v105) : Vec Ideal S16384 .i32) (ix1 p) = BitVec.ofNat 32 k.val) :
    ((after ((ops.drop 186).take 23) W) (Proc.devRef .tc main_v106) : Vec Ideal S16384x32 .f32) (ix2 p j) = ((W) (Proc.devRef .tc main_v90) : Vec Ideal S256x32 .f32) (ix2 k j) := by
  after_reads_simp
  simp -implicitDefEqProofs only [StableHlo.TRef.toBuf, StableHlo.TRef.ofBuf, cast_cast, cast_eq]
  clean_types
  simp only [pointwise]
  simp only [Nat.reduceEqDiff, ↓reduceDIte, h]
  simp only [Nat.reduceEqDiff, ↓reduceDIte, h, wrapped, inside, ones]
  refine gather_at _ _ p j k ?_
  simp only [pointwise]
  simp only [Nat.reduceEqDiff, ↓reduceDIte, h, wrapped]

theorem rest_2 (p : Fin 16384) (j : Fin 32) : ((after ((ops.drop 209).take 20) W) (Proc.devRef .tc main_v121) : Vec Ideal S16384x32 .f32) (ix2 p j)
    = mat (n := 16384) (k := 32) (W (Proc.devRef .tc main_v88)) p j
      - reach (mat (n := 16384) (k := 32) (W (Proc.devRef .tc main_v88)) p) (mat (n := 16384) (k := 32) (W (Proc.devRef .tc main_v106)) p) j := by
  after_reads_simp
  simp only [pointwise]
  rfl

theorem sofar_2 (p : Fin 16384) (j : Fin 32) : ((after ((ops.drop 209).take 20) W) (Proc.devRef .tc main_v120) : Vec Ideal S16384x32 .f32) (ix2 p j)
    = mat (n := 16384) (k := 32) (W (Proc.devRef .tc main_v87)) p j
      + reach (mat (n := 16384) (k := 32) (W (Proc.devRef .tc main_v88)) p) (mat (n := 16384) (k := 32) (W (Proc.devRef .tc main_v106)) p) j := by
  after_reads_simp
  simp only [pointwise]
  rfl

theorem loss_2 : ((after ((ops.drop 209).take 20) W) (Proc.devRef .tc main_v117) : Vec Ideal S_ .f32) ix0
    = addloss (((W) (Proc.devRef .tc main_v84) : Vec Ideal S_ .f32) ix0) (mat (n := 16384) (k := 32) (W (Proc.devRef .tc main_v88))) (mat (n := 16384) (k := 32) (W (Proc.devRef .tc main_v106))) := by
  after_reads_simp
  simp only [pointwise, Ideal.hostReduceAdd_def]
  rfl

end Cert.ReferenceIdeal.Hand

end
end
-- ==== Proof.RefEnds.lean ====
module
public import proofs.«01_k».proof.Proof.RefRead

/-! The reference's encoder before its three rounds, and what it makes of them after. -/

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.Rows

variable (W : Valuation τ sig (Elt Ideal))

/-- Row times matrix plus a row. -/
def shifted {n k : Nat} (M : Mat n k) (b : Row k) (x : Row n) : Row k := fun j => lin M x j + b j
theorem shifted_zero {n k : Nat} (M : Mat n k) (b : Row k) (h : ∀ j, b j = 0) : shifted M b = lin M := by
  funext x j
  rw [shifted, h, add_zero]

theorem encoded
    (h0 : ∀ j : Fin 512, (W (Proc.devRef .tc main_arg2) : Vec Ideal S512 .f32) (ix1 j) = (0 : EReal))
    (h1 : ∀ j : Fin 256, (W (Proc.devRef .tc main_arg4) : Vec Ideal S256 .f32) (ix1 j) = (0 : EReal))
    (h2 : ∀ j : Fin 128, (W (Proc.devRef .tc main_arg6) : Vec Ideal S128 .f32) (ix1 j) = (0 : EReal))
    (h3 : ∀ j : Fin 32, (W (Proc.devRef .tc main_arg8) : Vec Ideal S32 .f32) (ix1 j) = (0 : EReal))
    (p : Fin 16384) (j : Fin 32) :
    (after (ops.take 27) W (Proc.devRef .tc main_v21) : Vec Ideal S16384x32 .f32) (ix2 p j)
      = enc (mat (n := 768) (k := 512) (W (Proc.devRef .tc main_arg1))) (mat (n := 512) (k := 256) (W (Proc.devRef .tc main_arg3)))
          (mat (n := 256) (k := 128) (W (Proc.devRef .tc main_arg5))) (mat (n := 128) (k := 32) (W (Proc.devRef .tc main_arg7)))
          (mat (n := 16384) (k := 768) (W (Proc.devRef .tc main_arg0)) p) j := by
  after_reads_simp
  simp only [pointwise, Ideal.hostReduceAdd_def]
  simp only [Nat.reduceEqDiff, ↓reduceDIte, zero_add]
  unfold enc
  rw [← shifted_zero _ (fun j => W (Proc.devRef .tc main_arg2) (ix1 j)) h0, ← shifted_zero _ (fun j => W (Proc.devRef .tc main_arg4) (ix1 j)) h1,
    ← shifted_zero _ (fun j => W (Proc.devRef .tc main_arg6) (ix1 j)) h2, ← shifted_zero _ (fun j => W (Proc.devRef .tc main_arg8) (ix1 j)) h3]
  rfl

theorem start_zero (p : Fin 16384) (j : Fin 32) :
    (after (ops.take 27) W (Proc.devRef .tc main_v22) : Vec Ideal S16384x32 .f32) (ix2 p j) = (0 : EReal) := by
  after_reads_simp
  simp only [pointwise]

theorem decoded
    (h0 : ∀ j : Fin 128, (W (Proc.devRef .tc main_arg10) : Vec Ideal S128 .f32) (ix1 j) = (0 : EReal))
    (h1 : ∀ j : Fin 256, (W (Proc.devRef .tc main_arg12) : Vec Ideal S256 .f32) (ix1 j) = (0 : EReal))
    (h2 : ∀ j : Fin 512, (W (Proc.devRef .tc main_arg14) : Vec Ideal S512 .f32) (ix1 j) = (0 : EReal))
    (h3 : ∀ j : Fin 768, (W (Proc.devRef .tc main_arg16) : Vec Ideal S768 .f32) (ix1 j) = (0 : EReal))
    (p : Fin 16384) (j : Fin 768) :
    (after ((ops.drop 229).take 30) W (Proc.devRef .tc main_v147) : Vec Ideal S16384x768 .f32) (ix2 p j)
      = dec (mat (n := 32) (k := 128) (W (Proc.devRef .tc main_arg9))) (mat (n := 128) (k := 256) (W (Proc.devRef .tc main_arg11)))
          (mat (n := 256) (k := 512) (W (Proc.devRef .tc main_arg13))) (mat (n := 512) (k := 768) (W (Proc.devRef .tc main_arg15)))
          (mat (n := 16384) (k := 32) (W (Proc.devRef .tc main_v120)) p) j := by
  after_reads_simp
  simp only [pointwise, Ideal.hostReduceAdd_def]
  simp only [Nat.reduceEqDiff, ↓reduceDIte, zero_add]
  unfold dec
  rw [← shifted_zero _ (fun j => W (Proc.devRef .tc main_arg10) (ix1 j)) h0, ← shifted_zero _ (fun j => W (Proc.devRef .tc main_arg12) (ix1 j)) h1,
    ← shifted_zero _ (fun j => W (Proc.devRef .tc main_arg14) (ix1 j)) h2, ← shifted_zero _ (fun j => W (Proc.devRef .tc main_arg16) (ix1 j)) h3]
  rfl

theorem loss_out : (after ((ops.drop 229).take 30) W (Proc.devRef .tc main_v148) : Vec Ideal S1x1 .f32) (ix2 0 0)
    = (W (Proc.devRef .tc main_v117) : Vec Ideal S_ .f32) ix0 := by
  after_reads_simp
  simp only [pointwise]

theorem col_0 (p : Fin 16384) (z : Fin 1) : (after ((ops.drop 229).take 3) W (Proc.devRef .tc main_v122) : Vec Ideal S16384x1 .i32) (ix2 p z)
    = (W (Proc.devRef .tc main_v39) : Vec Ideal S16384 .i32) (ix1 p) := by
  after_reads_simp
  simp only [pointwise]
  simp only [Nat.reduceEqDiff, ↓reduceDIte]
theorem col_1 (p : Fin 16384) (z : Fin 1) : (after ((ops.drop 229).take 3) W (Proc.devRef .tc main_v123) : Vec Ideal S16384x1 .i32) (ix2 p z)
    = (W (Proc.devRef .tc main_v72) : Vec Ideal S16384 .i32) (ix1 p) := by
  after_reads_simp
  simp only [pointwise]
  simp only [Nat.reduceEqDiff, ↓reduceDIte]
theorem col_2 (p : Fin 16384) (z : Fin 1) : (after ((ops.drop 229).take 3) W (Proc.devRef .tc main_v124) : Vec Ideal S16384x1 .i32) (ix2 p z)
    = (W (Proc.devRef .tc main_v105) : Vec Ideal S16384 .i32) (ix1 p) := by
  after_reads_simp
  simp only [pointwise]
  simp only [Nat.reduceEqDiff, ↓reduceDIte]

/-- Three columns side by side. -/
theorem three (x y z : S16384x1.Idx → BitVec 32) (p : Fin 16384) (j : Fin 3) (hs) (c : Nat) (hc) (e : c = j.val) :
    concatenateAt S16384x3 1 (ix2 (n0 := 16384) (n1 := 3) p j) [⟨S16384x1, x⟩, ⟨S16384x1, y⟩, ⟨S16384x1, z⟩] hs c hc
      = (![x (ix2 (n0 := 16384) (n1 := 1) p 0), y (ix2 (n0 := 16384) (n1 := 1) p 0), z (ix2 (n0 := 16384) (n1 := 1) p 0)]
          : Fin 3 → BitVec 32) j := by
  subst e
  simp only [concatenateAt_cons, concatenateAt_singleton]
  match j with
  | ⟨0, _⟩ => simp [pointwise]
  | ⟨1, _⟩ => simp [pointwise]
  | ⟨2, _⟩ => simp [pointwise]

theorem side (p : Fin 16384) (j : Fin 3) : (after ((ops.drop 232).take 1) W (Proc.devRef .tc main_v125) : Vec Ideal S16384x3 .i32) (ix2 p j)
    = (![(W (Proc.devRef .tc main_v122) : Vec Ideal S16384x1 .i32) (ix2 p 0), (W (Proc.devRef .tc main_v123) : Vec Ideal S16384x1 .i32) (ix2 p 0),
        (W (Proc.devRef .tc main_v124) : Vec Ideal S16384x1 .i32) (ix2 p 0)] : Fin 3 → BitVec 32) j := by
  after_reads_simp
  simp only [pointwise]
  exact three _ _ _ p j _ _ _ rfl

theorem side_kept : after ((ops.drop 233).take 26) W (Proc.devRef .tc main_v125) = W (Proc.devRef .tc main_v125) := by
  after_reads_simp

end Cert.ReferenceIdeal.Hand

end
end
-- ==== Proof.RefRound.lean ====
module
public import proofs.«01_k».proof.Proof.RefEnds

/-! Each of the reference's rounds as a whole. -/

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.Rows

variable (W : Valuation τ sig (Elt Ideal))

/-- One of the three tables of code words. -/
def book (i : Fin 3) : Mat 256 32 := fun k j => (W (Proc.devRef .tc main_arg17) : Vec Ideal S3x256x32 .f32) (ix3 i k j)

theorem cuts_0 : after ((ops.drop 27).take 68) W = after ((ops.drop 74).take 21) (after ((ops.drop 51).take 23)
    (after ((ops.drop 46).take 5) (after ((ops.drop 27).take 19) W))) :=
  (cut W 27 19 49).trans ((cut _ 46 5 44).trans (cut _ 51 23 21))

theorem round_0 : ∃ K : Fin 16384 → Fin 256,
    (∀ p, Least (refd (book W 0) (mat (n := 16384) (k := 32) (W (Proc.devRef .tc main_v21)) p)) (K p)) ∧
    (∀ p, ((after ((ops.drop 27).take 68) W) (Proc.devRef .tc main_v39) : Vec Ideal S16384 .i32) (ix1 p) = BitVec.ofNat 32 (K p).val) ∧
    (∀ p, mat (n := 16384) (k := 32) ((after ((ops.drop 27).take 68) W) (Proc.devRef .tc main_v55)) p = sub (mat (n := 16384) (k := 32) (W (Proc.devRef .tc main_v21)) p) (reach (mat (n := 16384) (k := 32) (W (Proc.devRef .tc main_v21)) p) (book W 0 (K p)))) ∧
    (∀ p, mat (n := 16384) (k := 32) ((after ((ops.drop 27).take 68) W) (Proc.devRef .tc main_v54)) p = add (mat (n := 16384) (k := 32) (W (Proc.devRef .tc main_v22)) p) (reach (mat (n := 16384) (k := 32) (W (Proc.devRef .tc main_v21)) p) (book W 0 (K p)))) ∧
    ((after ((ops.drop 27).take 68) W) (Proc.devRef .tc main_v51) : Vec Ideal S_ .f32) ix0 = addloss 0 (mat (n := 16384) (k := 32) (W (Proc.devRef .tc main_v21))) (fun p => book W 0 (K p)) := by
  choose K hK hI using find_0 (after ((ops.drop 27).take 19) W)
  have hd : ∀ p, mat (n := 16384) (k := 256) (after ((ops.drop 27).take 19) W (Proc.devRef .tc main_v38)) p = refd (book W 0) (mat (n := 16384) (k := 32) (W (Proc.devRef .tc main_v21)) p) :=
    fun p => funext fun k => dist_0 W p k
  have hE : mat (n := 16384) (k := 32) (after ((ops.drop 51).take 23) (after ((ops.drop 46).take 5) (after ((ops.drop 27).take 19) W)) (Proc.devRef .tc main_v40)) = fun p => book W 0 (K p) := by
    funext p j
    refine (take_0 _ p j (K p) (hI p)).trans ?_
    rw [keep_0_b_v24]
    exact table_0 W (K p) j
  rw [cuts_0]
  refine ⟨K, fun p => hd p ▸ hK p, fun p => ?_, fun p => ?_, fun p => ?_, ?_⟩
  · rw [keep_0_d_v39, keep_0_c_v39]
    exact hI p
  · funext j
    refine (rest_0 _ p j).trans ?_
    rw [hE, keep_0_c_v21, keep_0_b_v21, keep_0_a_v21]
    rfl
  · funext j
    refine (sofar_0 _ p j).trans ?_
    rw [hE, keep_0_c_v21, keep_0_b_v21, keep_0_a_v21, keep_0_c_v22, keep_0_b_v22, keep_0_a_v22]
    rfl
  · refine (loss_0 _).trans ?_
    rw [hE, keep_0_c_v21, keep_0_b_v21, keep_0_a_v21]

theorem cuts_1 : after ((ops.drop 95).take 67) W = after ((ops.drop 142).take 20) (after ((ops.drop 119).take 23)
    (after ((ops.drop 114).take 5) (after ((ops.drop 95).take 19) W))) :=
  (cut W 95 19 48).trans ((cut _ 114 5 43).trans (cut _ 119 23 20))

theorem round_1 : ∃ K : Fin 16384 → Fin 256,
    (∀ p, Least (refd (book W 1) (mat (n := 16384) (k := 32) (W (Proc.devRef .tc main_v55)) p)) (K p)) ∧
    (∀ p, ((after ((ops.drop 95).take 67) W) (Proc.devRef .tc main_v72) : Vec Ideal S16384 .i32) (ix1 p) = BitVec.ofNat 32 (K p).val) ∧
    (∀ p, mat (n := 16384) (k := 32) ((after ((ops.drop 95).take 67) W) (Proc.devRef .tc main_v88)) p = sub (mat (n := 16384) (k := 32) (W (Proc.devRef .tc main_v55)) p) (reach (mat (n := 16384) (k := 32) (W (Proc.devRef .tc main_v55)) p) (book W 1 (K p)))) ∧
    (∀ p, mat (n := 16384) (k := 32) ((after ((ops.drop 95).take 67) W) (Proc.devRef .tc main_v87)) p = add (mat (n := 16384) (k := 32) (W (Proc.devRef .tc main_v54)) p) (reach (mat (n := 16384) (k := 32) (W (Proc.devRef .tc main_v55)) p) (book W 1 (K p)))) ∧
    ((after ((ops.drop 95).take 67) W) (Proc.devRef .tc main_v84) : Vec Ideal S_ .f32) ix0 = addloss ((W (Proc.devRef .tc main_v51) : Vec Ideal S_ .f32) ix0) (mat (n := 16384) (k := 32) (W (Proc.devRef .tc main_v55))) (fun p => book W 1 (K p)) := by
  choose K hK hI using find_1 (after ((ops.drop 95).take 19) W)
  have hd : ∀ p, mat (n := 16384) (k := 256) (after ((ops.drop 95).take 19) W (Proc.devRef .tc main_v71)) p = refd (book W 1) (mat (n := 16384) (k := 32) (W (Proc.devRef .tc main_v55)) p) :=
    fun p => funext fun k => dist_1 W p k
  have hE : mat (n := 16384) (k := 32) (after ((ops.drop 119).take 23) (after ((ops.drop 114).take 5) (after ((ops.drop 95).take 19) W)) (Proc.devRef .tc main_v73)) = fun p => book W 1 (K p) := by
    funext p j
    refine (take_1 _ p j (K p) (hI p)).trans ?_
    rw [keep_1_b_v57]
    exact table_1 W (K p) j
  rw [cuts_1]
  refine ⟨K, fun p => hd p ▸ hK p, fun p => ?_, fun p => ?_, fun p => ?_, ?_⟩
  · rw [keep_1_d_v72, keep_1_c_v72]
    exact hI p
  · funext j
    refine (rest_1 _ p j).trans ?_
    rw [hE, keep_1_c_v55, keep_1_b_v55, keep_1_a_v55]
    rfl
  · funext j
    refine (sofar_1 _ p j).trans ?_
    rw [hE, keep_1_c_v55, keep_1_b_v55, keep_1_a_v55, keep_1_c_v54, keep_1_b_v54, keep_1_a_v54]
    rfl
  · refine (loss_1 _).trans ?_
    rw [hE, keep_1_c_v55, keep_1_b_v55, keep_1_a_v55, keep_1_c_v51, keep_1_b_v51, keep_1_a_v51]

theorem cuts_2 : after ((ops.drop 162).take 67) W = after ((ops.drop 209).take 20) (after ((ops.drop 186).take 23)
    (after ((ops.drop 181).take 5) (after ((ops.drop 162).take 19) W))) :=
  (cut W 162 19 48).trans ((cut _ 181 5 43).trans (cut _ 186 23 20))

theorem round_2 : ∃ K : Fin 16384 → Fin 256,
    (∀ p, Least (refd (book W 2) (mat (n := 16384) (k := 32) (W (Proc.devRef .tc main_v88)) p)) (K p)) ∧
    (∀ p, ((after ((ops.drop 162).take 67) W) (Proc.devRef .tc main_v105) : Vec Ideal S16384 .i32) (ix1 p) = BitVec.ofNat 32 (K p).val) ∧
    (∀ p, mat (n := 16384) (k := 32) ((after ((ops.drop 162).take 67) W) (Proc.devRef .tc main_v121)) p = sub (mat (n := 16384) (k := 32) (W (Proc.devRef .tc main_v88)) p) (reach (mat (n := 16384) (k := 32) (W (Proc.devRef .tc main_v88)) p) (book W 2 (K p)))) ∧
    (∀ p, mat (n := 16384) (k := 32) ((after ((ops.drop 162).take 67) W) (Proc.devRef .tc main_v120)) p = add (mat (n := 16384) (k := 32) (W (Proc.devRef .tc main_v87)) p) (reach (mat (n := 16384) (k := 32) (W (Proc.devRef .tc main_v88)) p) (book W 2 (K p)))) ∧
    ((after ((ops.drop 162).take 67) W) (Proc.devRef .tc main_v117) : Vec Ideal S_ .f32) ix0 = addloss ((W (Proc.devRef .tc main_v84) : Vec Ideal S_ .f32) ix0) (mat (n := 16384) (k := 32) (W (Proc.devRef .tc main_v88))) (fun p => book W 2 (K p)) := by
  choose K hK hI using find_2 (after ((ops.drop 162).take 19) W)
  have hd : ∀ p, mat (n := 16384) (k := 256) (after ((ops.drop 162).take 19) W (Proc.devRef .tc main_v104)) p = refd (book W 2) (mat (n := 16384) (k := 32) (W (Proc.devRef .tc main_v88)) p) :=
    fun p => funext fun k => dist_2 W p k
  have hE : mat (n := 16384) (k := 32) (after ((ops.drop 186).take 23) (after ((ops.drop 181).take 5) (after ((ops.drop 162).take 19) W)) (Proc.devRef .tc main_v106)) = fun p => book W 2 (K p) := by
    funext p j
    refine (take_2 _ p j (K p) (hI p)).trans ?_
    rw [keep_2_b_v90]
    exact table_2 W (K p) j
  rw [cuts_2]
  refine ⟨K, fun p => hd p ▸ hK p, fun p => ?_, fun p => ?_, fun p => ?_, ?_⟩
  · rw [keep_2_d_v105, keep_2_c_v105]
    exact hI p
  · funext j
    refine (rest_2 _ p j).trans ?_
    rw [hE, keep_2_c_v88, keep_2_b_v88, keep_2_a_v88]
    rfl
  · funext j
    refine (sofar_2 _ p j).trans ?_
    rw [hE, keep_2_c_v88, keep_2_b_v88, keep_2_a_v88, keep_2_c_v87, keep_2_b_v87, keep_2_a_v87]
    rfl
  · refine (loss_2 _).trans ?_
    rw [hE, keep_2_c_v88, keep_2_b_v88, keep_2_a_v88, keep_2_c_v84, keep_2_b_v84, keep_2_a_v84]

end Cert.ReferenceIdeal.Hand

end
end
-- ==== Proof.KBase.lean ====
module
public import proofs.«01_k».proof.Proof.Gen.KernelIdeal.Value
public import proofs.«01_k».proof.Proof.Rows
public import Idealize.ShloMosaic.Lib.Pointwise
public import Idealize.ShloMosaic.Lib.IdealHost

/-! Small readings used by the row lemmas of the kernel's body. -/

@[expose] public section

set_option maxRecDepth 16384

noncomputable section

namespace Cert.KernelIdeal.Hand

open Idealize.ShloMosaic Idealize.ShloMosaic.TcCoe Idealize.SL.Sem Cert.Rows Cert.KernelIdeal.Gen

/-- The positive infinity of the format. -/
theorem bits_top : Ideal.ofBits FTy.f32 0x7F800000#32 = ⊤ := by
  simp [Ideal.ofBits, Ideal.ieee]
/-- The number 256. -/
theorem bits_256 : Ideal.ofBits FTy.f32 0x43800000#32 = ((256 : ℝ) : EReal) := by
  simp [Ideal.ofBits, Ideal.ieee, -EReal.coe_mul]; norm_num
/-- The number zero. -/
theorem bits_0 : Ideal.ofBits FTy.f32 0x00000000#32 = 0 := by
  simp [Ideal.ofBits, Ideal.ieee]

/-- The position of an entry along its row, as a number. -/
theorem iota44 (p : Fin 512) (k : Fin 256) : k0_pay44 (F := Ideal) (ix2 p k) = ((k.val : ℝ) : EReal) := by
  show (((BitVec.ofNat 32 (0 * 256 + k.val)).toInt : ℝ) : EReal) = _
  have h : ∀ k : Fin 256, (BitVec.ofNat 32 (0 * 256 + k.val)).toInt = (k.val : ℤ) := by decide +kernel
  rw [h]; norm_cast
/-- The same in the narrower format. -/
theorem iota45 (p : Fin 512) (k : Fin 256) : k0_pay45 (F := Ideal) (ix2 p k) = ((k.val : ℝ) : EReal) := iota44 p k
/-- Three copies of an array side by side. -/
theorem cat3 (v : FVec Ideal S512x256 .bf16) (p : Fin 512) (k : Fin 768) :
    concatenate S512x768 1 [⟨S512x256, v⟩, ⟨S512x256, v⟩, ⟨S512x256, v⟩]
      concatenates_S512x256_S512x256_S512x256_S512x768_d1 (ix2 p k)
      = v (ix2 p ⟨k.val % 256, Nat.mod_lt _ (by norm_num)⟩) := by
  simp only [pointwise]
  have e : (![512, 256] : Fin 2 → Nat) 1 = 256 := rfl
  simp only [e]
  split
  · refine congrArg v (funext fun d => Fin.ext ?_)
    match d with
    | ⟨0, _⟩ => rfl
    | ⟨1, _⟩ => show k.val = k.val % 256; omega
  · split
    · refine congrArg v (funext fun d => Fin.ext ?_)
      match d with
      | ⟨0, _⟩ => rfl
      | ⟨1, _⟩ => show k.val - 256 = k.val % 256; omega
    · refine congrArg v (funext fun d => Fin.ext ?_)
      match d with
      | ⟨0, _⟩ => rfl
      | ⟨1, _⟩ => show k.val - 256 - 256 = k.val % 256; omega

/-- The zero array. -/
theorem row59 (p : Fin 512) : mat (k0_pay59 (F := Ideal)) p = fun _ => 0 := by
  funext j; simp only [k0_pay59, mat, pointwise, bits_0]
theorem row60 (p : Fin 512) : mat (k0_pay60 (F := Ideal)) p = fun _ => 0 := by
  funext j; simp only [k0_pay60, mat, pointwise, bits_0]
theorem row61 (p : Fin 512) : mat (k0_pay61 (F := Ideal)) p = fun _ => 0 := by
  funext j; simp only [k0_pay61, mat, pointwise, bits_0]
theorem row62 (p : Fin 512) : mat (k0_pay62 (F := Ideal)) p = fun _ => 0 := by
  funext j; simp only [k0_pay62, mat, pointwise, bits_0]
theorem row46 : mat (k0_pay46 (F := Ideal)) 0 0 = 0 := by
  simp only [k0_pay46, mat, pointwise, bits_0]
theorem row43 : mat (k0_pay43 (F := Ideal)) 0 0 = 0 := by
  simp only [k0_pay43, mat, pointwise, bits_0]
theorem row1 (a b : FVec Ideal S1x1 .f32) :
    mat (k0_pay1 (F := Ideal) a b) 0 0 = mat b 0 0 + mat a 0 0 * Ideal.ofBits FTy.f32 0x36200000#32 := by
  simp only [k0_pay1, mat, pointwise]

theorem row63 (v : Vec Ideal S1x32x256 .bf16) : mat (k0_pay63 (F := Ideal) v) = slab v := by
  funext i j; simp only [k0_pay63, mat, slab, pointwise]
theorem row97 (v : Vec Ideal S1x32x256 .bf16) : mat (k0_pay97 (F := Ideal) v) = slab v := by
  funext i j; simp only [k0_pay97, mat, slab, pointwise]
theorem row64 (v : Vec Ideal S1x1x256 .f32) : mat (k0_pay64 (F := Ideal) v) = slab v := by
  funext i j
  have hi : i = 0 := Subsingleton.elim _ _
  subst hi
  simp only [k0_pay64, mat, slab, pointwise]
theorem row130 (v : Vec Ideal S1x1x256 .f32) : mat (k0_pay130 (F := Ideal) v) = slab v := by
  funext i j
  have hi : i = 0 := Subsingleton.elim _ _
  subst hi
  simp only [k0_pay130, mat, slab, pointwise]
theorem row66 (v : Vec Ideal S1x3x256x32 .bf16) : mat (k0_pay66 (F := Ideal) (k0_pay65 v)) = stack v := by

  funext i j
  simp only [k0_pay66, k0_pay65, mat, stack, pointwise]
theorem row99 (v : Vec Ideal S1x3x256x32 .bf16) : mat (k0_pay99 (F := Ideal) v) = stack v := row66 v
theorem row131 (v : Vec Ideal S1x3x256x32 .bf16) : mat (k0_pay131 (F := Ideal) v) = stack v := row66 v

/-- Three columns side by side, rounded to whole numbers. -/
theorem cols (a b c : FVec Ideal S512x1 .f32) (p : Fin 512) (j : Fin 3) :
    fptosi 32 (concatenate S512x3 1 [⟨S512x1, a⟩, ⟨S512x1, b⟩, ⟨S512x1, c⟩]
      concatenates_S512x1_S512x1_S512x1_S512x3_d1) (ix2 p j)
      = Ideal.fptosi 32 (![mat a p 0, mat b p 0, mat c p 0] j) := by
  simp only [pointwise]
  fin_cases j <;> rfl
end Cert.KernelIdeal.Hand

end
end
-- ==== Proof.KRowA.lean ====
module
public import proofs.«01_k».proof.Proof.KBase

/-! Values of the kernel's body read one row at a time: the encoder and the decoder. -/

@[expose] public section

set_option maxRecDepth 16384

noncomputable section

namespace Cert.KernelIdeal.Hand

open Idealize.ShloMosaic Idealize.ShloMosaic.TcCoe Idealize.SL.Sem Cert.Rows Cert.KernelIdeal.Gen

theorem row47 (v7 : Vec Ideal S512x768 .f32) (v11 : Vec Ideal S768x512 .bf16) (p : Fin 512) :
    mat (k0_pay47 (F := Ideal) v7 v11) p
      = relu (lin (mat v11) (mat v7 p)) := by
  funext j
  simp only [k0_pay47, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row48 (v8 : Vec Ideal S512x768 .f32) (v16 : Vec Ideal S768x512 .bf16) (p : Fin 512) :
    mat (k0_pay48 (F := Ideal) v8 v16) p
      = relu (lin (mat v16) (mat v8 p)) := by
  funext j
  simp only [k0_pay48, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row49 (v9 : Vec Ideal S512x768 .f32) (v21 : Vec Ideal S768x512 .bf16) (p : Fin 512) :
    mat (k0_pay49 (F := Ideal) v9 v21) p
      = relu (lin (mat v21) (mat v9 p)) := by
  funext j
  simp only [k0_pay49, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row50 (v10 : Vec Ideal S512x768 .f32) (v26 : Vec Ideal S768x512 .bf16) (p : Fin 512) :
    mat (k0_pay50 (F := Ideal) v10 v26) p
      = relu (lin (mat v26) (mat v10 p)) := by
  funext j
  simp only [k0_pay50, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row51 (v30 : FVec Ideal S512x512 .f32) (v46 : Vec Ideal S512x256 .bf16) (p : Fin 512) :
    mat (k0_pay51 (F := Ideal) v30 v46) p
      = relu (lin (mat v46) (mat v30 p)) := by
  funext j
  simp only [k0_pay51, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row52 (v15 : FVec Ideal S512x512 .f32) (v31 : Vec Ideal S512x256 .bf16) (v51 : Vec Ideal S256x128 .bf16) (p : Fin 512) :
    mat (k0_pay52 (F := Ideal) v15 v31 v51) p
      = relu (lin (mat v51) (relu (lin (mat v31) (mat v15 p)))) := by
  funext j
  simp only [k0_pay52, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row53 (v20 : FVec Ideal S512x512 .f32) (v36 : Vec Ideal S512x256 .bf16) (v56 : Vec Ideal S256x128 .bf16) (p : Fin 512) :
    mat (k0_pay53 (F := Ideal) v20 v36 v56) p
      = relu (lin (mat v56) (relu (lin (mat v36) (mat v20 p)))) := by
  funext j
  simp only [k0_pay53, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row54 (v25 : FVec Ideal S512x512 .f32) (v41 : Vec Ideal S512x256 .bf16) (v61 : Vec Ideal S256x128 .bf16) (p : Fin 512) :
    mat (k0_pay54 (F := Ideal) v25 v41 v61) p
      = lin (mat v61) (relu (lin (mat v41) (mat v25 p))) := by
  funext j
  simp only [k0_pay54, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row55 (v55 : FVec Ideal S512x128 .f32) (v71 : Vec Ideal S128x32 .bf16) (p : Fin 512) :
    mat (k0_pay55 (F := Ideal) v55 v71) p
      = lin (mat v71) (mat v55 p) := by
  funext j
  simp only [k0_pay55, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row56 (v60 : FVec Ideal S512x128 .f32) (v74 : Vec Ideal S128x32 .bf16) (p : Fin 512) :
    mat (k0_pay56 (F := Ideal) v60 v74) p
      = lin (mat v74) (mat v60 p) := by
  funext j
  simp only [k0_pay56, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row57 (v63 : FVec Ideal S512x128 .f32) (v77 : Vec Ideal S128x32 .bf16) (p : Fin 512) :
    mat (k0_pay57 (F := Ideal) v63 v77) p
      = lin (mat v77) (relu (mat v63 p)) := by
  funext j
  simp only [k0_pay57, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row58 (v50 : FVec Ideal S512x256 .f32) (v66 : Vec Ideal S256x128 .bf16) (v80 : Vec Ideal S128x32 .bf16) (p : Fin 512) :
    mat (k0_pay58 (F := Ideal) v50 v66 v80) p
      = lin (mat v80) (relu (lin (mat v66) (mat v50 p))) := by
  funext j
  simp only [k0_pay58, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row158 (v491 : FVec Ideal S512x32 .f32) (v528 : Vec Ideal S32x128 .bf16) (p : Fin 512) :
    mat (k0_pay158 (F := Ideal) v491 v528) p
      = relu (lin (mat v528) (mat v491 p)) := by
  funext j
  simp only [k0_pay158, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row159 (v499 : FVec Ideal S512x32 .f32) (v533 : Vec Ideal S32x128 .bf16) (p : Fin 512) :
    mat (k0_pay159 (F := Ideal) v499 v533) p
      = relu (lin (mat v533) (mat v499 p)) := by
  funext j
  simp only [k0_pay159, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row160 (v364 : FVec Ideal S512x32 .f32) (v477 : FVec Ideal S512x32 .f32) (v538 : Vec Ideal S32x128 .bf16) (p : Fin 512) :
    mat (k0_pay160 (F := Ideal) v364 v477 v538) p
      = lin (mat v538) (add (mat v364 p) (mat v477 p)) := by
  funext j
  simp only [k0_pay160, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row161 (v540 : FVec Ideal S512x128 .f32) (v558 : Vec Ideal S128x256 .bf16) (p : Fin 512) :
    mat (k0_pay161 (F := Ideal) v540 (FloatOps.ofBits FTy.f32 0x00000000#32) v558) p
      = relu (lin (mat v558) (relu (mat v540 p))) := by
  funext j
  simp only [k0_pay161, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row162 (v515 : FVec Ideal S512x32 .f32) (v543 : Vec Ideal S32x128 .bf16) (v563 : Vec Ideal S128x256 .bf16) (p : Fin 512) :
    mat (k0_pay162 (F := Ideal) v515 v543 v563) p
      = relu (lin (mat v563) (relu (lin (mat v543) (mat v515 p)))) := by
  funext j
  simp only [k0_pay162, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row163 (v532 : FVec Ideal S512x128 .f32) (v548 : Vec Ideal S128x256 .bf16) (v568 : Vec Ideal S256x512 .bf16) (p : Fin 512) :
    mat (k0_pay163 (F := Ideal) v532 v548 v568) p
      = relu (lin (mat v568) (relu (lin (mat v548) (mat v532 p)))) := by
  funext j
  simp only [k0_pay163, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row164 (v537 : FVec Ideal S512x128 .f32) (v553 : Vec Ideal S128x256 .bf16) (p : Fin 512) :
    mat (k0_pay164 (F := Ideal) v537 v553) p
      = relu (lin (mat v553) (mat v537 p)) := by
  funext j
  simp only [k0_pay164, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row165 (v572 : FVec Ideal S512x512 .f32) (v588 : Vec Ideal S512x768 .bf16) (p : Fin 512) :
    mat (k0_pay165 (F := Ideal) v572 v588) p
      = lin (mat v588) (mat v572 p) := by
  funext j
  simp only [k0_pay165, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row166 (v573 : Vec Ideal S256x512 .bf16) (v574 : FVec Ideal S512x256 .bf16) (v592 : Vec Ideal S512x768 .bf16) (p : Fin 512) :
    mat (k0_pay166 (F := Ideal) v573 v574 v592) p
      = lin (mat v592) (relu (lin (mat v573) (mat v574 p))) := by
  funext j
  simp only [k0_pay166, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row167 (v562 : FVec Ideal S512x256 .f32) (v578 : Vec Ideal S256x512 .bf16) (v596 : Vec Ideal S512x768 .bf16) (p : Fin 512) :
    mat (k0_pay167 (F := Ideal) v562 v578 v596) p
      = lin (mat v596) (relu (lin (mat v578) (mat v562 p))) := by
  funext j
  simp only [k0_pay167, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row168 (v567 : FVec Ideal S512x256 .f32) (v583 : Vec Ideal S256x512 .bf16) (v600 : Vec Ideal S512x768 .bf16) (p : Fin 512) :
    mat (k0_pay168 (F := Ideal) v567 v583 v600) p
      = lin (mat v600) (relu (lin (mat v583) (mat v567 p))) := by
  funext j
  simp only [k0_pay168, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

end Cert.KernelIdeal.Hand

end
end
-- ==== Proof.KRowB.lean ====
module
public import proofs.«01_k».proof.Proof.KBase

/-! Values of the kernel's body read one row at a time: the first round. -/

@[expose] public section

set_option maxRecDepth 16384

noncomputable section

namespace Cert.KernelIdeal.Hand

open Idealize.ShloMosaic Idealize.ShloMosaic.TcCoe Idealize.SL.Sem Cert.Rows Cert.KernelIdeal.Gen

theorem row67 (v76 : FVec Ideal S512x32 .f32) (v88 : FVec Ideal S32x256 .bf16) (v90 : FVec Ideal S1x256 .f32) (p : Fin 512) :
    mat (k0_pay67 (F := Ideal) v76 v88 v90) p
      = kdist (mat v88) (mat v90 0) (mat v76 p) := by
  funext j
  simp only [k0_pay67, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row68 (v79 : FVec Ideal S512x32 .f32) (v88 : FVec Ideal S32x256 .bf16) (v90 : FVec Ideal S1x256 .f32) (p : Fin 512) :
    mat (k0_pay68 (F := Ideal) v79 v88 v90) p
      = kdist (mat v88) (mat v90 0) (mat v79 p) := by
  funext j
  simp only [k0_pay68, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row69 (v82 : FVec Ideal S512x32 .f32) (v88 : FVec Ideal S32x256 .bf16) (v90 : FVec Ideal S1x256 .f32) (p : Fin 512) :
    mat (k0_pay69 (F := Ideal) v82 v88 v90) p
      = kdist (mat v88) (mat v90 0) (mat v82 p) := by
  funext j
  simp only [k0_pay69, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row70 (v76 : FVec Ideal S512x32 .f32) (v88 : FVec Ideal S32x256 .bf16) (v90 : FVec Ideal S1x256 .f32) (p : Fin 512) :
    mat (k0_pay70 (F := Ideal) v76 v88 v90) p 0
      = low (kdist (mat v88) (mat v90 0) (mat v76 p)) := by
  simp only [k0_pay67, k0_pay70, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row71 (v79 : FVec Ideal S512x32 .f32) (v88 : FVec Ideal S32x256 .bf16) (v90 : FVec Ideal S1x256 .f32) (p : Fin 512) :
    mat (k0_pay71 (F := Ideal) v79 v88 v90) p 0
      = low (kdist (mat v88) (mat v90 0) (mat v79 p)) := by
  simp only [k0_pay68, k0_pay71, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row72 (v82 : FVec Ideal S512x32 .f32) (v88 : FVec Ideal S32x256 .bf16) (v90 : FVec Ideal S1x256 .f32) (p : Fin 512) :
    mat (k0_pay72 (F := Ideal) v82 v88 v90) p 0
      = low (kdist (mat v88) (mat v90 0) (mat v82 p)) := by
  simp only [k0_pay69, k0_pay72, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row74 (v73 : FVec Ideal S512x32 .f32) (v88 : FVec Ideal S32x256 .bf16) (v90 : FVec Ideal S1x256 .f32) (p : Fin 512) :
    mat (k0_pay74 (F := Ideal) (k0_pay44 (F := Ideal)) (k0_pay73 (F := Ideal) v73 v88 v90) (FloatOps.ofBits FTy.f32 0x43800000#32)) p 0
      = spot (kdist (mat v88) (mat v90 0) (mat v73 p)) (low (kdist (mat v88) (mat v90 0) (mat v73 p))) := by
  simp only [k0_pay73, k0_pay74, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row75 (v111 : FVec Ideal S512x256 .f32) (v133 : FVec Ideal S512x1 .f32) (p : Fin 512) :
    mat (k0_pay75 (F := Ideal) (k0_pay44 (F := Ideal)) v111 v133) p 0
      = spot (mat v111 p) (mat v133 p 0) := by
  simp only [k0_pay75, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row76 (v120 : FVec Ideal S512x256 .f32) (v135 : FVec Ideal S512x1 .f32) (p : Fin 512) :
    mat (k0_pay76 (F := Ideal) (k0_pay44 (F := Ideal)) v120 v135) p 0
      = spot (mat v120 p) (mat v135 p 0) := by
  simp only [k0_pay76, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row77 (v129 : FVec Ideal S512x256 .f32) (v137 : FVec Ideal S512x1 .f32) (p : Fin 512) :
    mat (k0_pay77 (F := Ideal) (k0_pay44 (F := Ideal)) v129 v137) p 0
      = spot (mat v129 p) (mat v137 p 0) := by
  simp only [k0_pay77, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row78 (v73 : FVec Ideal S512x32 .f32) (v88 : FVec Ideal S32x256 .bf16) (v90 : FVec Ideal S1x256 .f32) (p : Fin 512) :
    mat (k0_pay78 (F := Ideal) (k0_pay44 (F := Ideal)) (k0_pay45 (F := Ideal)) (k0_pay73 (F := Ideal) v73 v88 v90) (FloatOps.ofBits FTy.f32 0x43800000#32)) p
      = hot (spot (kdist (mat v88) (mat v90 0) (mat v73 p)) (low (kdist (mat v88) (mat v90 0) (mat v73 p)))) := by
  funext j
  simp only [k0_pay73, k0_pay74, k0_pay78, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row79 (v111 : FVec Ideal S512x256 .f32) (v133 : FVec Ideal S512x1 .f32) (p : Fin 512) :
    mat (k0_pay79 (F := Ideal) (k0_pay44 (F := Ideal)) (k0_pay45 (F := Ideal)) v111 v133) p
      = hot (spot (mat v111 p) (mat v133 p 0)) := by
  funext j
  simp only [k0_pay75, k0_pay79, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row80 (v120 : FVec Ideal S512x256 .f32) (v135 : FVec Ideal S512x1 .f32) (p : Fin 512) :
    mat (k0_pay80 (F := Ideal) (k0_pay44 (F := Ideal)) (k0_pay45 (F := Ideal)) v120 v135) p
      = hot (spot (mat v120 p) (mat v135 p 0)) := by
  funext j
  simp only [k0_pay76, k0_pay80, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row84 (v93 : FVec Ideal S768x32 .bf16) (v167 : FVec Ideal S512x256 .bf16) (p : Fin 512) :
    mat (k0_pay84 (F := Ideal) v93 v167) p
      = word (mat v93) (mat v167 p) := by
  funext j
  simp only [k0_pay84, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row85 (v93 : FVec Ideal S768x32 .bf16) (v173 : FVec Ideal S512x256 .bf16) (p : Fin 512) :
    mat (k0_pay85 (F := Ideal) v93 v173) p
      = word (mat v93) (mat v173 p) := by
  funext j
  simp only [k0_pay85, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row86 (v93 : FVec Ideal S768x32 .bf16) (v179 : FVec Ideal S512x256 .bf16) (p : Fin 512) :
    mat (k0_pay86 (F := Ideal) v93 v179) p
      = word (mat v93) (mat v179 p) := by
  funext j
  simp only [k0_pay86, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row87 (v93 : FVec Ideal S768x32 .bf16) (v129 : FVec Ideal S512x256 .f32) (v137 : FVec Ideal S512x1 .f32) (p : Fin 512) :
    mat (k0_pay87 (F := Ideal) v93 (k0_pay81 (F := Ideal) (k0_pay44 (F := Ideal)) (k0_pay45 (F := Ideal)) v129 v137) (k0_pay82 (F := Ideal)) (k0_pay83 (F := Ideal))) p
      = word (mat v93) (hot (spot (mat v129 p) (mat v137 p 0))) := by
  funext j
  simp only [k0_pay77, k0_pay81, k0_pay82, k0_pay83, k0_pay87, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row88 (v73 : FVec Ideal S512x32 .f32) (v93 : FVec Ideal S768x32 .bf16) (v167 : FVec Ideal S512x256 .bf16) (p : Fin 512) :
    mat (k0_pay88 (F := Ideal) v73 v93 v167) p
      = sub (mat v73 p) (word (mat v93) (mat v167 p)) := by
  funext j
  simp only [k0_pay84, k0_pay88, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row89 (v76 : FVec Ideal S512x32 .f32) (v93 : FVec Ideal S768x32 .bf16) (v173 : FVec Ideal S512x256 .bf16) (p : Fin 512) :
    mat (k0_pay89 (F := Ideal) v76 v93 v173) p
      = sub (mat v76 p) (word (mat v93) (mat v173 p)) := by
  funext j
  simp only [k0_pay85, k0_pay89, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row90 (v79 : FVec Ideal S512x32 .f32) (v93 : FVec Ideal S768x32 .bf16) (v179 : FVec Ideal S512x256 .bf16) (p : Fin 512) :
    mat (k0_pay90 (F := Ideal) v79 v93 v179) p
      = sub (mat v79 p) (word (mat v93) (mat v179 p)) := by
  funext j
  simp only [k0_pay86, k0_pay90, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row91 (v82 : FVec Ideal S512x32 .f32) (v93 : FVec Ideal S768x32 .bf16) (v129 : FVec Ideal S512x256 .f32) (v137 : FVec Ideal S512x1 .f32) (p : Fin 512) :
    mat (k0_pay91 (F := Ideal) v82 v93 (k0_pay81 (F := Ideal) (k0_pay44 (F := Ideal)) (k0_pay45 (F := Ideal)) v129 v137) (k0_pay82 (F := Ideal)) (k0_pay83 (F := Ideal))) p
      = sub (mat v82 p) (word (mat v93) (hot (spot (mat v129 p) (mat v137 p 0)))) := by
  funext j
  simp only [k0_pay77, k0_pay81, k0_pay82, k0_pay83, k0_pay87, k0_pay91, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row92 (v83 : FVec Ideal S512x32 .f32) (v93 : FVec Ideal S768x32 .bf16) (v167 : FVec Ideal S512x256 .bf16) (p : Fin 512) :
    mat (k0_pay92 (F := Ideal) v83 v93 v167) p
      = add (mat v83 p) (word (mat v93) (mat v167 p)) := by
  funext j
  simp only [k0_pay84, k0_pay92, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row93 (v84 : FVec Ideal S512x32 .f32) (v93 : FVec Ideal S768x32 .bf16) (v173 : FVec Ideal S512x256 .bf16) (p : Fin 512) :
    mat (k0_pay93 (F := Ideal) v84 v93 v173) p
      = add (mat v84 p) (word (mat v93) (mat v173 p)) := by
  funext j
  simp only [k0_pay85, k0_pay93, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row94 (v85 : FVec Ideal S512x32 .f32) (v93 : FVec Ideal S768x32 .bf16) (v179 : FVec Ideal S512x256 .bf16) (p : Fin 512) :
    mat (k0_pay94 (F := Ideal) v85 v93 v179) p
      = add (mat v85 p) (word (mat v93) (mat v179 p)) := by
  funext j
  simp only [k0_pay86, k0_pay94, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row95 (v6 : FVec Ideal S1x1 .f32) (v73 : FVec Ideal S512x32 .f32) (v76 : FVec Ideal S512x32 .f32) (v79 : FVec Ideal S512x32 .f32) (v82 : FVec Ideal S512x32 .f32) (v93 : FVec Ideal S768x32 .bf16) (v167 : FVec Ideal S512x256 .bf16) (v173 : FVec Ideal S512x256 .bf16) (v179 : FVec Ideal S512x256 .bf16) (v129 : FVec Ideal S512x256 .f32) (v137 : FVec Ideal S512x1 .f32) :
    mat (k0_pay95 (F := Ideal) v6 v73 v76 v79 v82 v93 v167 v173 v179 (k0_pay81 (F := Ideal) (k0_pay44 (F := Ideal)) (k0_pay45 (F := Ideal)) v129 v137) (k0_pay82 (F := Ideal)) (k0_pay83 (F := Ideal))) 0 0
      = mat v6 0 0 + (∑ p : Fin 512, ssq (sub (mat v73 p) (word (mat v93) (mat v167 p)))) + (∑ p : Fin 512, ssq (sub (mat v76 p) (word (mat v93) (mat v173 p)))) + (∑ p : Fin 512, ssq (sub (mat v79 p) (word (mat v93) (mat v179 p)))) + (∑ p : Fin 512, ssq (sub (mat v82 p) (word (mat v93) (hot (spot (mat v129 p) (mat v137 p 0)))))) := by
  simp only [k0_pay77, k0_pay81, k0_pay82, k0_pay83, k0_pay84, k0_pay85, k0_pay86, k0_pay87, k0_pay88, k0_pay89, k0_pay90, k0_pay91, k0_pay95, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row96 (v86 : FVec Ideal S512x32 .f32) (v93 : FVec Ideal S768x32 .bf16) (v129 : FVec Ideal S512x256 .f32) (v137 : FVec Ideal S512x1 .f32) (p : Fin 512) :
    mat (k0_pay96 (F := Ideal) v86 v93 (k0_pay81 (F := Ideal) (k0_pay44 (F := Ideal)) (k0_pay45 (F := Ideal)) v129 v137) (k0_pay82 (F := Ideal)) (k0_pay83 (F := Ideal))) p
      = add (mat v86 p) (word (mat v93) (hot (spot (mat v129 p) (mat v137 p 0)))) := by
  funext j
  simp only [k0_pay77, k0_pay81, k0_pay82, k0_pay83, k0_pay87, k0_pay96, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

end Cert.KernelIdeal.Hand

end
end
-- ==== Proof.KRowC.lean ====
module
public import proofs.«01_k».proof.Proof.KBase

/-! Values of the kernel's body read one row at a time: the second round. -/

@[expose] public section

set_option maxRecDepth 16384

noncomputable section

namespace Cert.KernelIdeal.Hand

open Idealize.ShloMosaic Idealize.ShloMosaic.TcCoe Idealize.SL.Sem Cert.Rows Cert.KernelIdeal.Gen

theorem row100 (v194 : FVec Ideal S512x32 .f32) (v231 : FVec Ideal S32x256 .bf16) (v232 : Vec Ideal S1x1x256 .f32) (p : Fin 512) :
    mat (k0_pay100 (F := Ideal) v194 v231 v232) p
      = kdist (mat v231) (slab v232 0) (mat v194 p) := by
  funext j
  simp only [k0_pay98, k0_pay100, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row101 (v195 : FVec Ideal S512x32 .f32) (v231 : FVec Ideal S32x256 .bf16) (v232 : Vec Ideal S1x1x256 .f32) (p : Fin 512) :
    mat (k0_pay101 (F := Ideal) v195 v231 v232) p
      = kdist (mat v231) (slab v232 0) (mat v195 p) := by
  funext j
  simp only [k0_pay98, k0_pay101, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row102 (v196 : FVec Ideal S512x32 .f32) (v231 : FVec Ideal S32x256 .bf16) (v232 : Vec Ideal S1x1x256 .f32) (p : Fin 512) :
    mat (k0_pay102 (F := Ideal) v196 v231 v232) p
      = kdist (mat v231) (slab v232 0) (mat v196 p) := by
  funext j
  simp only [k0_pay98, k0_pay102, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row103 (v197 : FVec Ideal S512x32 .f32) (v231 : FVec Ideal S32x256 .bf16) (v232 : Vec Ideal S1x1x256 .f32) (p : Fin 512) :
    mat (k0_pay103 (F := Ideal) v197 v231 v232) p
      = kdist (mat v231) (slab v232 0) (mat v197 p) := by
  funext j
  simp only [k0_pay98, k0_pay103, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row104 (v194 : FVec Ideal S512x32 .f32) (v231 : FVec Ideal S32x256 .bf16) (v232 : Vec Ideal S1x1x256 .f32) (p : Fin 512) :
    mat (k0_pay104 (F := Ideal) v194 v231 v232) p 0
      = low (kdist (mat v231) (slab v232 0) (mat v194 p)) := by
  simp only [k0_pay98, k0_pay100, k0_pay104, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row105 (v195 : FVec Ideal S512x32 .f32) (v231 : FVec Ideal S32x256 .bf16) (v232 : Vec Ideal S1x1x256 .f32) (p : Fin 512) :
    mat (k0_pay105 (F := Ideal) v195 v231 v232) p 0
      = low (kdist (mat v231) (slab v232 0) (mat v195 p)) := by
  simp only [k0_pay98, k0_pay101, k0_pay105, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row106 (v245 : FVec Ideal S512x256 .f32) (v274 : FVec Ideal S512x1 .f32) (p : Fin 512) :
    mat (k0_pay106 (F := Ideal) (k0_pay44 (F := Ideal)) v245 v274) p 0
      = spot (mat v245 p) (mat v274 p 0) := by
  simp only [k0_pay106, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row107 (v254 : FVec Ideal S512x256 .f32) (v276 : FVec Ideal S512x1 .f32) (p : Fin 512) :
    mat (k0_pay107 (F := Ideal) (k0_pay44 (F := Ideal)) v254 v276) p 0
      = spot (mat v254 p) (mat v276 p 0) := by
  simp only [k0_pay107, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row108 (v263 : FVec Ideal S512x256 .f32) (p : Fin 512) :
    mat (k0_pay108 (F := Ideal) (k0_pay44 (F := Ideal)) v263) p 0
      = spot (mat v263 p) (low (mat v263 p)) := by
  simp only [k0_pay108, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row109 (v272 : FVec Ideal S512x256 .f32) (p : Fin 512) :
    mat (k0_pay109 (F := Ideal) (k0_pay44 (F := Ideal)) v272) p 0
      = spot (mat v272 p) (low (mat v272 p)) := by
  simp only [k0_pay109, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row110 (v245 : FVec Ideal S512x256 .f32) (v274 : FVec Ideal S512x1 .f32) (p : Fin 512) :
    mat (k0_pay110 (F := Ideal) (k0_pay44 (F := Ideal)) (k0_pay45 (F := Ideal)) v245 v274) p
      = hot (spot (mat v245 p) (mat v274 p 0)) := by
  funext j
  simp only [k0_pay106, k0_pay110, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row111 (v254 : FVec Ideal S512x256 .f32) (v276 : FVec Ideal S512x1 .f32) (p : Fin 512) :
    mat (k0_pay111 (F := Ideal) (k0_pay44 (F := Ideal)) (k0_pay45 (F := Ideal)) v254 v276) p
      = hot (spot (mat v254 p) (mat v276 p 0)) := by
  funext j
  simp only [k0_pay107, k0_pay111, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row114 (v236 : FVec Ideal S768x32 .bf16) (v310 : FVec Ideal S512x256 .bf16) (p : Fin 512) :
    mat (k0_pay114 (F := Ideal) v236 v310) p
      = word (mat v236) (mat v310 p) := by
  funext j
  simp only [k0_pay114, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row115 (v236 : FVec Ideal S768x32 .bf16) (v316 : FVec Ideal S512x256 .bf16) (p : Fin 512) :
    mat (k0_pay115 (F := Ideal) v236 v316) p
      = word (mat v236) (mat v316 p) := by
  funext j
  simp only [k0_pay115, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row116 (v236 : FVec Ideal S768x32 .bf16) (v263 : FVec Ideal S512x256 .f32) (p : Fin 512) :
    mat (k0_pay116 (F := Ideal) v236 (k0_pay112 (F := Ideal) (k0_pay44 (F := Ideal)) (k0_pay45 (F := Ideal)) v263) (FloatOps.ofBits FTy.bf16 0x0000#16) (k0_pay113 (F := Ideal))) p
      = word (mat v236) (hot (spot (mat v263 p) (low (mat v263 p)))) := by
  funext j
  simp only [k0_pay108, k0_pay112, k0_pay113, k0_pay116, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row117 (v236 : FVec Ideal S768x32 .bf16) (v304 : FVec Ideal S512x1 .f32) (p : Fin 512) :
    mat (k0_pay117 (F := Ideal) (k0_pay45 (F := Ideal)) v236 v304) p
      = word (mat v236) (hot (mat v304 p 0)) := by
  funext j
  simp only [k0_pay117, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row118 (v194 : FVec Ideal S512x32 .f32) (v236 : FVec Ideal S768x32 .bf16) (v310 : FVec Ideal S512x256 .bf16) (p : Fin 512) :
    mat (k0_pay118 (F := Ideal) v194 v236 v310) p
      = sub (mat v194 p) (word (mat v236) (mat v310 p)) := by
  funext j
  simp only [k0_pay114, k0_pay118, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row119 (v195 : FVec Ideal S512x32 .f32) (v236 : FVec Ideal S768x32 .bf16) (v316 : FVec Ideal S512x256 .bf16) (p : Fin 512) :
    mat (k0_pay119 (F := Ideal) v195 v236 v316) p
      = sub (mat v195 p) (word (mat v236) (mat v316 p)) := by
  funext j
  simp only [k0_pay115, k0_pay119, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row120 (v196 : FVec Ideal S512x32 .f32) (v236 : FVec Ideal S768x32 .bf16) (v263 : FVec Ideal S512x256 .f32) (p : Fin 512) :
    mat (k0_pay120 (F := Ideal) v196 v236 (k0_pay112 (F := Ideal) (k0_pay44 (F := Ideal)) (k0_pay45 (F := Ideal)) v263) (FloatOps.ofBits FTy.bf16 0x0000#16) (k0_pay113 (F := Ideal))) p
      = sub (mat v196 p) (word (mat v236) (hot (spot (mat v263 p) (low (mat v263 p))))) := by
  funext j
  simp only [k0_pay108, k0_pay112, k0_pay113, k0_pay116, k0_pay120, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row121 (v197 : FVec Ideal S512x32 .f32) (v236 : FVec Ideal S768x32 .bf16) (v304 : FVec Ideal S512x1 .f32) (p : Fin 512) :
    mat (k0_pay121 (F := Ideal) (k0_pay45 (F := Ideal)) v197 v236 v304) p
      = sub (mat v197 p) (word (mat v236) (hot (mat v304 p 0))) := by
  funext j
  simp only [k0_pay117, k0_pay121, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row122 (v205 : FVec Ideal S512x32 .f32) (v236 : FVec Ideal S768x32 .bf16) (v310 : FVec Ideal S512x256 .bf16) (p : Fin 512) :
    mat (k0_pay122 (F := Ideal) v205 v236 v310) p
      = add (mat v205 p) (word (mat v236) (mat v310 p)) := by
  funext j
  simp only [k0_pay114, k0_pay122, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row123 (v213 : FVec Ideal S512x32 .f32) (v236 : FVec Ideal S768x32 .bf16) (v316 : FVec Ideal S512x256 .bf16) (p : Fin 512) :
    mat (k0_pay123 (F := Ideal) v213 v236 v316) p
      = add (mat v213 p) (word (mat v236) (mat v316 p)) := by
  funext j
  simp only [k0_pay115, k0_pay123, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row124 (v194 : FVec Ideal S512x32 .f32) (v195 : FVec Ideal S512x32 .f32) (v196 : FVec Ideal S512x32 .f32) (v228 : FVec Ideal S1x1 .f32) (v236 : FVec Ideal S768x32 .bf16) (v310 : FVec Ideal S512x256 .bf16) (v316 : FVec Ideal S512x256 .bf16) (v263 : FVec Ideal S512x256 .f32) :
    mat (k0_pay124 (F := Ideal) v194 v195 v196 v228 v236 v310 v316 (k0_pay112 (F := Ideal) (k0_pay44 (F := Ideal)) (k0_pay45 (F := Ideal)) v263) (FloatOps.ofBits FTy.bf16 0x0000#16) (k0_pay113 (F := Ideal))) 0 0
      = mat v228 0 0 + (∑ p : Fin 512, ssq (sub (mat v194 p) (word (mat v236) (mat v310 p)))) + (∑ p : Fin 512, ssq (sub (mat v195 p) (word (mat v236) (mat v316 p)))) + (∑ p : Fin 512, ssq (sub (mat v196 p) (word (mat v236) (hot (spot (mat v263 p) (low (mat v263 p))))))) := by
  simp only [k0_pay108, k0_pay112, k0_pay113, k0_pay114, k0_pay115, k0_pay116, k0_pay118, k0_pay119, k0_pay120, k0_pay124, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row125 (v221 : FVec Ideal S512x32 .f32) (v236 : FVec Ideal S768x32 .bf16) (v263 : FVec Ideal S512x256 .f32) (p : Fin 512) :
    mat (k0_pay125 (F := Ideal) v221 v236 (k0_pay112 (F := Ideal) (k0_pay44 (F := Ideal)) (k0_pay45 (F := Ideal)) v263) (FloatOps.ofBits FTy.bf16 0x0000#16) (k0_pay113 (F := Ideal))) p
      = add (mat v221 p) (word (mat v236) (hot (spot (mat v263 p) (low (mat v263 p))))) := by
  funext j
  simp only [k0_pay108, k0_pay112, k0_pay113, k0_pay116, k0_pay125, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row126 (v197 : FVec Ideal S512x32 .f32) (v236 : FVec Ideal S768x32 .bf16) (v304 : FVec Ideal S512x1 .f32) :
    mat (k0_pay126 (F := Ideal) (k0_pay45 (F := Ideal)) v197 v236 v304) 0 0
      = ∑ p : Fin 512, ssq (sub (mat v197 p) (word (mat v236) (hot (mat v304 p 0)))) := by
  simp only [k0_pay117, k0_pay121, k0_pay126, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row127 (v363 : FVec Ideal S1x1 .f32) (v370 : FVec Ideal S1x1 .f32) :
    mat (k0_pay127 (F := Ideal) v363 v370) 0 0
      = mat v363 0 0 + (mat v370 0 0) := by
  simp only [k0_pay127, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row128 (v229 : FVec Ideal S512x32 .f32) (v336 : FVec Ideal S512x32 .f32) (p : Fin 512) :
    mat (k0_pay128 (F := Ideal) v229 v336) p
      = add (mat v229 p) (mat v336 p) := by
  funext j
  simp only [k0_pay128, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

end Cert.KernelIdeal.Hand

end
end
-- ==== Proof.KRowD.lean ====
module
public import proofs.«01_k».proof.Proof.KBase

/-! Values of the kernel's body read one row at a time: the third round. -/

@[expose] public section

set_option maxRecDepth 16384

noncomputable section

namespace Cert.KernelIdeal.Hand

open Idealize.ShloMosaic Idealize.ShloMosaic.TcCoe Idealize.SL.Sem Cert.Rows Cert.KernelIdeal.Gen

theorem row132 (v337 : FVec Ideal S512x32 .f32) (v373 : Vec Ideal S1x32x256 .bf16) (v375 : Vec Ideal S1x1x256 .f32) (p : Fin 512) :
    mat (k0_pay132 (F := Ideal) v337 v373 v375) p
      = kdist (slab v373) (slab v375 0) (mat v337 p) := by
  funext j
  simp only [k0_pay129, k0_pay130, k0_pay132, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row133 (v338 : FVec Ideal S512x32 .f32) (v373 : Vec Ideal S1x32x256 .bf16) (v375 : Vec Ideal S1x1x256 .f32) (p : Fin 512) :
    mat (k0_pay133 (F := Ideal) v338 v373 v375) p
      = kdist (slab v373) (slab v375 0) (mat v338 p) := by
  funext j
  simp only [k0_pay129, k0_pay130, k0_pay133, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row134 (v339 : FVec Ideal S512x32 .f32) (v373 : Vec Ideal S1x32x256 .bf16) (v375 : Vec Ideal S1x1x256 .f32) (p : Fin 512) :
    mat (k0_pay134 (F := Ideal) v339 v373 v375) p
      = kdist (slab v373) (slab v375 0) (mat v339 p) := by
  funext j
  simp only [k0_pay129, k0_pay130, k0_pay134, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row137 (v388 : FVec Ideal S512x256 .f32) (p : Fin 512) :
    mat (k0_pay137 (F := Ideal) (k0_pay44 (F := Ideal)) v388) p 0
      = spot (mat v388 p) (low (mat v388 p)) := by
  simp only [k0_pay137, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row138 (v397 : FVec Ideal S512x256 .f32) (p : Fin 512) :
    mat (k0_pay138 (F := Ideal) (k0_pay44 (F := Ideal)) v397) p 0
      = spot (mat v397 p) (low (mat v397 p)) := by
  simp only [k0_pay138, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row139 (v406 : FVec Ideal S512x256 .f32) (p : Fin 512) :
    mat (k0_pay139 (F := Ideal) (k0_pay44 (F := Ideal)) v406) p 0
      = spot (mat v406 p) (low (mat v406 p)) := by
  simp only [k0_pay139, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row140 (v376 : FVec Ideal S1x256 .f32) (v340 : FVec Ideal S512x32 .f32) (v373 : Vec Ideal S1x32x256 .bf16) (p : Fin 512) :
    mat (k0_pay140 (F := Ideal) (k0_pay44 (F := Ideal)) v376 (k0_pay135 (F := Ideal) v340 v373) (k0_pay136 (F := Ideal) v340)) p 0
      = spot (kdist (slab v373) (mat v376 0) (mat v340 p)) (low (kdist (slab v373) (mat v376 0) (mat v340 p))) := by
  simp only [k0_pay129, k0_pay135, k0_pay136, k0_pay140, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row141 (v388 : FVec Ideal S512x256 .f32) (p : Fin 512) :
    mat (k0_pay141 (F := Ideal) (k0_pay44 (F := Ideal)) (k0_pay45 (F := Ideal)) v388) p
      = hot (spot (mat v388 p) (low (mat v388 p))) := by
  funext j
  simp only [k0_pay137, k0_pay141, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row143 (v379 : FVec Ideal S768x32 .bf16) (v453 : FVec Ideal S512x256 .bf16) (p : Fin 512) :
    mat (k0_pay143 (F := Ideal) v379 v453) p
      = word (mat v379) (mat v453 p) := by
  funext j
  simp only [k0_pay143, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row144 (v379 : FVec Ideal S768x32 .bf16) (v397 : FVec Ideal S512x256 .f32) (p : Fin 512) :
    mat (k0_pay144 (F := Ideal) v379 (k0_pay142 (F := Ideal) (k0_pay44 (F := Ideal)) (k0_pay45 (F := Ideal)) v397) (FloatOps.ofBits FTy.bf16 0x3F80#16) (FloatOps.ofBits FTy.bf16 0x0000#16)) p
      = word (mat v379) (hot (spot (mat v397 p) (low (mat v397 p)))) := by
  funext j
  simp only [k0_pay138, k0_pay142, k0_pay144, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row145 (v379 : FVec Ideal S768x32 .bf16) (v441 : FVec Ideal S512x1 .f32) (p : Fin 512) :
    mat (k0_pay145 (F := Ideal) (k0_pay45 (F := Ideal)) v379 v441) p
      = word (mat v379) (hot (mat v441 p 0)) := by
  funext j
  simp only [k0_pay145, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row146 (v379 : FVec Ideal S768x32 .bf16) (v447 : FVec Ideal S512x1 .f32) (p : Fin 512) :
    mat (k0_pay146 (F := Ideal) (k0_pay45 (F := Ideal)) v379 v447) p
      = word (mat v379) (hot (mat v447 p 0)) := by
  funext j
  simp only [k0_pay146, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row147 (v340 : FVec Ideal S512x32 .f32) (v379 : FVec Ideal S768x32 .bf16) (v447 : FVec Ideal S512x1 .f32) (p : Fin 512) :
    mat (k0_pay147 (F := Ideal) (k0_pay45 (F := Ideal)) v340 v379 v447) p
      = sub (mat v340 p) (word (mat v379) (hot (mat v447 p 0))) := by
  funext j
  simp only [k0_pay146, k0_pay147, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row148 (v348 : FVec Ideal S512x32 .f32) (v379 : FVec Ideal S768x32 .bf16) (v453 : FVec Ideal S512x256 .bf16) (p : Fin 512) :
    mat (k0_pay148 (F := Ideal) v348 v379 v453) p
      = add (mat v348 p) (word (mat v379) (mat v453 p)) := by
  funext j
  simp only [k0_pay143, k0_pay148, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row149 (v337 : FVec Ideal S512x32 .f32) (v338 : FVec Ideal S512x32 .f32) (v371 : FVec Ideal S1x1 .f32) (v379 : FVec Ideal S768x32 .bf16) (v453 : FVec Ideal S512x256 .bf16) (v397 : FVec Ideal S512x256 .f32) :
    mat (k0_pay149 (F := Ideal) v337 v338 v371 v379 v453 (k0_pay142 (F := Ideal) (k0_pay44 (F := Ideal)) (k0_pay45 (F := Ideal)) v397) (FloatOps.ofBits FTy.bf16 0x3F80#16) (FloatOps.ofBits FTy.bf16 0x0000#16)) 0 0
      = mat v371 0 0 + (∑ p : Fin 512, ssq (sub (mat v337 p) (word (mat v379) (mat v453 p)))) + (∑ p : Fin 512, ssq (sub (mat v338 p) (word (mat v379) (hot (spot (mat v397 p) (low (mat v397 p))))))) := by
  simp only [k0_pay138, k0_pay142, k0_pay143, k0_pay144, k0_pay149, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row150 (v356 : FVec Ideal S512x32 .f32) (v379 : FVec Ideal S768x32 .bf16) (v397 : FVec Ideal S512x256 .f32) (p : Fin 512) :
    mat (k0_pay150 (F := Ideal) v356 v379 (k0_pay142 (F := Ideal) (k0_pay44 (F := Ideal)) (k0_pay45 (F := Ideal)) v397) (FloatOps.ofBits FTy.bf16 0x3F80#16) (FloatOps.ofBits FTy.bf16 0x0000#16)) p
      = add (mat v356 p) (word (mat v379) (hot (spot (mat v397 p) (low (mat v397 p))))) := by
  funext j
  simp only [k0_pay138, k0_pay142, k0_pay144, k0_pay150, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row151 (v339 : FVec Ideal S512x32 .f32) (v379 : FVec Ideal S768x32 .bf16) (v441 : FVec Ideal S512x1 .f32) :
    mat (k0_pay151 (F := Ideal) (k0_pay45 (F := Ideal)) v339 v379 v441) 0 0
      = ∑ p : Fin 512, ssq (sub (mat v339 p) (word (mat v379) (hot (mat v441 p 0)))) := by
  simp only [k0_pay145, k0_pay151, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row152 (v483 : FVec Ideal S512x32 .f32) (v498 : FVec Ideal S1x1 .f32) (v505 : FVec Ideal S1x1 .f32) :
    mat (k0_pay152 (F := Ideal) v483 v498 v505) 0 0
      = mat v498 0 0 + (mat v505 0 0) + (∑ p : Fin 512, ssq (mat v483 p)) := by
  simp only [k0_pay152, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

theorem row153 (v372 : FVec Ideal S512x32 .f32) (v479 : FVec Ideal S512x32 .f32) (p : Fin 512) :
    mat (k0_pay153 (F := Ideal) v372 v479) p
      = add (mat v372 p) (mat v479 p) := by
  funext j
  simp only [k0_pay153, mat, slab, ssq, kdist, lin, word, thrice, hot, ite_same, ite_within, spot, low, relu, add, sub, cat3, iota44, iota45, pointwise,
    Ideal.reduceAdd_def, bits_top, bits_256, bits_0, zero_add, Nat.reduceEqDiff, ↓reduceDIte]

end Cert.KernelIdeal.Hand

end
end
-- ==== Proof.KTile.lean ====
module
public import proofs.«01_k».proof.Proof.KRowA
public import proofs.«01_k».proof.Proof.KRowB
public import proofs.«01_k».proof.Proof.KRowC
public import proofs.«01_k».proof.Proof.KRowD

/-! The three results of one tile, as functions of the rows loaded and of the tables held. -/

@[expose] public section

set_option maxRecDepth 16384

noncomputable section

namespace Cert.KernelIdeal.Hand

open Idealize.ShloMosaic Idealize.ShloMosaic.TcCoe Idealize.SL.Sem Cert.Rows Cert.KernelIdeal.Gen

variable (w0 : Vec Ideal S768x512 .bf16) (w1 : Vec Ideal S512x256 .bf16) (w2 : Vec Ideal S256x128 .bf16) (w3 : Vec Ideal S128x32 .bf16) (u0 : Vec Ideal S32x128 .bf16) (u1 : Vec Ideal S128x256 .bf16) (u2 : Vec Ideal S256x512 .bf16) (u3 : Vec Ideal S512x768 .bf16) (ct0 : Vec Ideal S1x32x256 .bf16) (ct1 : Vec Ideal S1x32x256 .bf16) (ct2 : Vec Ideal S1x32x256 .bf16) (cn0 : Vec Ideal S1x1x256 .f32) (cn1 : Vec Ideal S1x1x256 .f32) (cn2 : Vec Ideal S1x1x256 .f32) (cs0 : Vec Ideal S1x3x256x32 .bf16) (cs1 : Vec Ideal S1x3x256x32 .bf16) (cs2 : Vec Ideal S1x3x256x32 .bf16)

/-- The tables of a tile from the arrays loaded. -/
def par : Par :=
  Par.mk (mat w0) (mat w1) (mat w2) (mat w3) (mat u0) (mat u1) (mat u2) (mat u3) (slab ct0) (slab ct1) (slab ct2) (slab cn0 0) (slab cn1 0) (slab cn2 0) (stack cs0) (stack cs1) (stack cs2)

/-- Slice 3 of the reconstruction. -/
def rec3 (X3 : Vec Ideal S512x768 .f32) : Vec Ideal S512x768 .f32 :=
  k0_pay168 (F := Ideal) (k0_pay162 (F := Ideal) (k0_pay153 (F := Ideal) (k0_pay128 (F := Ideal) (k0_pay96 (F := Ideal) (k0_pay62 (F := Ideal)) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay117 (F := Ideal) (k0_pay45 (F := Ideal)) (k0_pay99 (F := Ideal) cs1) (k0_pay109 (F := Ideal) (k0_pay44 (F := Ideal)) (k0_pay103 (F := Ideal) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay97 (F := Ideal) ct1) cn1)))) (k0_pay146 (F := Ideal) (k0_pay45 (F := Ideal)) (k0_pay131 (F := Ideal) cs2) (k0_pay140 (F := Ideal) (k0_pay44 (F := Ideal)) (k0_pay130 (F := Ideal) cn2) (k0_pay135 (F := Ideal) (k0_pay121 (F := Ideal) (k0_pay45 (F := Ideal)) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay99 (F := Ideal) cs1) (k0_pay109 (F := Ideal) (k0_pay44 (F := Ideal)) (k0_pay103 (F := Ideal) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay97 (F := Ideal) ct1) cn1))) ct2) (k0_pay136 (F := Ideal) (k0_pay121 (F := Ideal) (k0_pay45 (F := Ideal)) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay99 (F := Ideal) cs1) (k0_pay109 (F := Ideal) (k0_pay44 (F := Ideal)) (k0_pay103 (F := Ideal) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay97 (F := Ideal) ct1) cn1))))))) u0 u1) u2 u3
theorem rec3_row (X3 : Vec Ideal S512x768 .f32) (p : Fin 512) :
    mat (rec3 w0 w1 w2 w3 u0 u1 u2 u3 ct0 ct1 ct2 cn0 cn1 cn2 cs0 cs1 cs2 X3) p = (par w0 w1 w2 w3 u0 u1 u2 u3 ct0 ct1 ct2 cn0 cn1 cn2 cs0 cs1 cs2).out (mat X3 p) := by
  simp only [rec3, par, Par.out, Par.xq, Par.r3, Par.r2, Par.r1, Par.r0, dec, enc, pickw, rest, code,
    row47, row48, row49, row50, row51, row52, row53, row54, row55, row56, row57, row58, row67, row68,
    row69, row70, row71, row72, row74, row75, row76, row77, row78, row79, row80, row84, row85, row86,
    row87, row88, row89, row90, row91, row92, row93, row94, row95, row96, row100, row101, row102, row103,
    row104, row105, row106, row107, row108, row109, row110, row111, row114, row115, row116, row117, row118, row119,
    row120, row121, row122, row123, row124, row125, row126, row127, row128, row132, row133, row134, row137, row138,
    row139, row140, row141, row143, row144, row145, row146, row147, row148, row149, row150, row151, row152, row153,
    row158, row159, row160, row161, row162, row163, row164, row165, row166, row167, row168, row46, row59, row60,
    row61, row62, row1, row63, row97, row64, row130, row66, row99, row131]

/-- Slice 2 of the reconstruction. -/
def rec2 (X2 : Vec Ideal S512x768 .f32) : Vec Ideal S512x768 .f32 :=
  k0_pay167 (F := Ideal) (k0_pay161 (F := Ideal) (k0_pay160 (F := Ideal) (k0_pay125 (F := Ideal) (k0_pay94 (F := Ideal) (k0_pay61 (F := Ideal)) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay99 (F := Ideal) cs1) (k0_pay112 (F := Ideal) (k0_pay44 (F := Ideal)) (k0_pay45 (F := Ideal)) (k0_pay102 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay97 (F := Ideal) ct1) cn1)) (FloatOps.ofBits FTy.bf16 0#16) (k0_pay113 (F := Ideal))) (k0_pay145 (F := Ideal) (k0_pay45 (F := Ideal)) (k0_pay131 (F := Ideal) cs2) (k0_pay139 (F := Ideal) (k0_pay44 (F := Ideal)) (k0_pay134 (F := Ideal) (k0_pay120 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay99 (F := Ideal) cs1) (k0_pay112 (F := Ideal) (k0_pay44 (F := Ideal)) (k0_pay45 (F := Ideal)) (k0_pay102 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay97 (F := Ideal) ct1) cn1)) (FloatOps.ofBits FTy.bf16 0#16) (k0_pay113 (F := Ideal))) ct2 cn2))) u0) (FloatOps.ofBits FTy.f32 0#32) u1) u2 u3
theorem rec2_row (X2 : Vec Ideal S512x768 .f32) (p : Fin 512) :
    mat (rec2 w0 w1 w2 w3 u0 u1 u2 u3 ct0 ct1 ct2 cn0 cn1 cn2 cs0 cs1 cs2 X2) p = (par w0 w1 w2 w3 u0 u1 u2 u3 ct0 ct1 ct2 cn0 cn1 cn2 cs0 cs1 cs2).out (mat X2 p) := by
  simp only [rec2, par, Par.out, Par.xq, Par.r3, Par.r2, Par.r1, Par.r0, dec, enc, pickw, rest, code,
    row47, row48, row49, row50, row51, row52, row53, row54, row55, row56, row57, row58, row67, row68,
    row69, row70, row71, row72, row74, row75, row76, row77, row78, row79, row80, row84, row85, row86,
    row87, row88, row89, row90, row91, row92, row93, row94, row95, row96, row100, row101, row102, row103,
    row104, row105, row106, row107, row108, row109, row110, row111, row114, row115, row116, row117, row118, row119,
    row120, row121, row122, row123, row124, row125, row126, row127, row128, row132, row133, row134, row137, row138,
    row139, row140, row141, row143, row144, row145, row146, row147, row148, row149, row150, row151, row152, row153,
    row158, row159, row160, row161, row162, row163, row164, row165, row166, row167, row168, row46, row59, row60,
    row61, row62, row1, row63, row97, row64, row130, row66, row99, row131]

/-- Slice 1 of the reconstruction. -/
def rec1 (X1 : Vec Ideal S512x768 .f32) : Vec Ideal S512x768 .f32 :=
  k0_pay166 (F := Ideal) u2 (k0_pay164 (F := Ideal) (k0_pay159 (F := Ideal) (k0_pay150 (F := Ideal) (k0_pay123 (F := Ideal) (k0_pay93 (F := Ideal) (k0_pay60 (F := Ideal)) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay99 (F := Ideal) cs1) (k0_pay111 (F := Ideal) (k0_pay44 (F := Ideal)) (k0_pay45 (F := Ideal)) (k0_pay101 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1) (k0_pay105 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1))) (k0_pay131 (F := Ideal) cs2) (k0_pay142 (F := Ideal) (k0_pay44 (F := Ideal)) (k0_pay45 (F := Ideal)) (k0_pay133 (F := Ideal) (k0_pay119 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay99 (F := Ideal) cs1) (k0_pay111 (F := Ideal) (k0_pay44 (F := Ideal)) (k0_pay45 (F := Ideal)) (k0_pay101 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1) (k0_pay105 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1))) ct2 cn2)) (FloatOps.ofBits FTy.bf16 16256#16) (FloatOps.ofBits FTy.bf16 0#16)) u0) u1) u3
theorem rec1_row (X1 : Vec Ideal S512x768 .f32) (p : Fin 512) :
    mat (rec1 w0 w1 w2 w3 u0 u1 u2 u3 ct0 ct1 ct2 cn0 cn1 cn2 cs0 cs1 cs2 X1) p = (par w0 w1 w2 w3 u0 u1 u2 u3 ct0 ct1 ct2 cn0 cn1 cn2 cs0 cs1 cs2).out (mat X1 p) := by
  simp only [rec1, par, Par.out, Par.xq, Par.r3, Par.r2, Par.r1, Par.r0, dec, enc, pickw, rest, code,
    row47, row48, row49, row50, row51, row52, row53, row54, row55, row56, row57, row58, row67, row68,
    row69, row70, row71, row72, row74, row75, row76, row77, row78, row79, row80, row84, row85, row86,
    row87, row88, row89, row90, row91, row92, row93, row94, row95, row96, row100, row101, row102, row103,
    row104, row105, row106, row107, row108, row109, row110, row111, row114, row115, row116, row117, row118, row119,
    row120, row121, row122, row123, row124, row125, row126, row127, row128, row132, row133, row134, row137, row138,
    row139, row140, row141, row143, row144, row145, row146, row147, row148, row149, row150, row151, row152, row153,
    row158, row159, row160, row161, row162, row163, row164, row165, row166, row167, row168, row46, row59, row60,
    row61, row62, row1, row63, row97, row64, row130, row66, row99, row131]

/-- Slice 0 of the reconstruction. -/
def rec0 (X0 : Vec Ideal S512x768 .f32) : Vec Ideal S512x768 .f32 :=
  k0_pay165 (F := Ideal) (k0_pay163 (F := Ideal) (k0_pay158 (F := Ideal) (k0_pay148 (F := Ideal) (k0_pay122 (F := Ideal) (k0_pay92 (F := Ideal) (k0_pay59 (F := Ideal)) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay99 (F := Ideal) cs1) (k0_pay110 (F := Ideal) (k0_pay44 (F := Ideal)) (k0_pay45 (F := Ideal)) (k0_pay100 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1) (k0_pay104 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1))) (k0_pay131 (F := Ideal) cs2) (k0_pay141 (F := Ideal) (k0_pay44 (F := Ideal)) (k0_pay45 (F := Ideal)) (k0_pay132 (F := Ideal) (k0_pay118 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay99 (F := Ideal) cs1) (k0_pay110 (F := Ideal) (k0_pay44 (F := Ideal)) (k0_pay45 (F := Ideal)) (k0_pay100 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1) (k0_pay104 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1))) ct2 cn2))) u0) u1 u2) u3
theorem rec0_row (X0 : Vec Ideal S512x768 .f32) (p : Fin 512) :
    mat (rec0 w0 w1 w2 w3 u0 u1 u2 u3 ct0 ct1 ct2 cn0 cn1 cn2 cs0 cs1 cs2 X0) p = (par w0 w1 w2 w3 u0 u1 u2 u3 ct0 ct1 ct2 cn0 cn1 cn2 cs0 cs1 cs2).out (mat X0 p) := by
  simp only [rec0, par, Par.out, Par.xq, Par.r3, Par.r2, Par.r1, Par.r0, dec, enc, pickw, rest, code,
    row47, row48, row49, row50, row51, row52, row53, row54, row55, row56, row57, row58, row67, row68,
    row69, row70, row71, row72, row74, row75, row76, row77, row78, row79, row80, row84, row85, row86,
    row87, row88, row89, row90, row91, row92, row93, row94, row95, row96, row100, row101, row102, row103,
    row104, row105, row106, row107, row108, row109, row110, row111, row114, row115, row116, row117, row118, row119,
    row120, row121, row122, row123, row124, row125, row126, row127, row128, row132, row133, row134, row137, row138,
    row139, row140, row141, row143, row144, row145, row146, row147, row148, row149, row150, row151, row152, row153,
    row158, row159, row160, row161, row162, row163, row164, row165, row166, row167, row168, row46, row59, row60,
    row61, row62, row1, row63, row97, row64, row130, row66, row99, row131]

/-- Slice 3 of the positions. -/
def pos3 (X3 : Vec Ideal S512x768 .f32) : Vec Ideal S512x3 .i32 :=
  k0_pay157 (F := Ideal) (k0_pay77 (F := Ideal) (k0_pay44 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay109 (F := Ideal) (k0_pay44 (F := Ideal)) (k0_pay103 (F := Ideal) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay97 (F := Ideal) ct1) cn1)) (k0_pay140 (F := Ideal) (k0_pay44 (F := Ideal)) (k0_pay130 (F := Ideal) cn2) (k0_pay135 (F := Ideal) (k0_pay121 (F := Ideal) (k0_pay45 (F := Ideal)) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay99 (F := Ideal) cs1) (k0_pay109 (F := Ideal) (k0_pay44 (F := Ideal)) (k0_pay103 (F := Ideal) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay97 (F := Ideal) ct1) cn1))) ct2) (k0_pay136 (F := Ideal) (k0_pay121 (F := Ideal) (k0_pay45 (F := Ideal)) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay99 (F := Ideal) cs1) (k0_pay109 (F := Ideal) (k0_pay44 (F := Ideal)) (k0_pay103 (F := Ideal) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay97 (F := Ideal) ct1) cn1)))))
theorem pos3_row (X3 : Vec Ideal S512x768 .f32) (p : Fin 512) (j : Fin 3) :
    pos3 w0 w1 w2 w3 ct0 ct1 ct2 cn0 cn1 cn2 cs0 cs1 X3 (ix2 p j) = Ideal.fptosi 32 ((par w0 w1 w2 w3 u0 u1 u2 u3 ct0 ct1 ct2 cn0 cn1 cn2 cs0 cs1 cs2).ind (mat X3 p) j) := by
  unfold pos3 k0_pay157
  refine (cols _ _ _ p j).trans ?_
  simp only [par, Par.ind, Par.r2, Par.r1, Par.r0, enc, pickw, rest, code,
    row47, row48, row49, row50, row51, row52, row53, row54, row55, row56, row57, row58, row67, row68,
    row69, row70, row71, row72, row74, row75, row76, row77, row78, row79, row80, row84, row85, row86,
    row87, row88, row89, row90, row91, row92, row93, row94, row95, row96, row100, row101, row102, row103,
    row104, row105, row106, row107, row108, row109, row110, row111, row114, row115, row116, row117, row118, row119,
    row120, row121, row122, row123, row124, row125, row126, row127, row128, row132, row133, row134, row137, row138,
    row139, row140, row141, row143, row144, row145, row146, row147, row148, row149, row150, row151, row152, row153,
    row158, row159, row160, row161, row162, row163, row164, row165, row166, row167, row168, row46, row59, row60,
    row61, row62, row1, row63, row97, row64, row130, row66, row99, row131]

/-- Slice 2 of the positions. -/
def pos2 (X2 : Vec Ideal S512x768 .f32) : Vec Ideal S512x3 .i32 :=
  k0_pay156 (F := Ideal) (k0_pay76 (F := Ideal) (k0_pay44 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0))) (k0_pay108 (F := Ideal) (k0_pay44 (F := Ideal)) (k0_pay102 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay97 (F := Ideal) ct1) cn1)) (k0_pay139 (F := Ideal) (k0_pay44 (F := Ideal)) (k0_pay134 (F := Ideal) (k0_pay120 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay99 (F := Ideal) cs1) (k0_pay112 (F := Ideal) (k0_pay44 (F := Ideal)) (k0_pay45 (F := Ideal)) (k0_pay102 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay97 (F := Ideal) ct1) cn1)) (FloatOps.ofBits FTy.bf16 0#16) (k0_pay113 (F := Ideal))) ct2 cn2))
theorem pos2_row (X2 : Vec Ideal S512x768 .f32) (p : Fin 512) (j : Fin 3) :
    pos2 w0 w1 w2 w3 ct0 ct1 ct2 cn0 cn1 cn2 cs0 cs1 X2 (ix2 p j) = Ideal.fptosi 32 ((par w0 w1 w2 w3 u0 u1 u2 u3 ct0 ct1 ct2 cn0 cn1 cn2 cs0 cs1 cs2).ind (mat X2 p) j) := by
  unfold pos2 k0_pay156
  refine (cols _ _ _ p j).trans ?_
  simp only [par, Par.ind, Par.r2, Par.r1, Par.r0, enc, pickw, rest, code,
    row47, row48, row49, row50, row51, row52, row53, row54, row55, row56, row57, row58, row67, row68,
    row69, row70, row71, row72, row74, row75, row76, row77, row78, row79, row80, row84, row85, row86,
    row87, row88, row89, row90, row91, row92, row93, row94, row95, row96, row100, row101, row102, row103,
    row104, row105, row106, row107, row108, row109, row110, row111, row114, row115, row116, row117, row118, row119,
    row120, row121, row122, row123, row124, row125, row126, row127, row128, row132, row133, row134, row137, row138,
    row139, row140, row141, row143, row144, row145, row146, row147, row148, row149, row150, row151, row152, row153,
    row158, row159, row160, row161, row162, row163, row164, row165, row166, row167, row168, row46, row59, row60,
    row61, row62, row1, row63, row97, row64, row130, row66, row99, row131]

/-- Slice 1 of the positions. -/
def pos1 (X1 : Vec Ideal S512x768 .f32) : Vec Ideal S512x3 .i32 :=
  k0_pay155 (F := Ideal) (k0_pay75 (F := Ideal) (k0_pay44 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0))) (k0_pay107 (F := Ideal) (k0_pay44 (F := Ideal)) (k0_pay101 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1) (k0_pay105 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1)) (k0_pay138 (F := Ideal) (k0_pay44 (F := Ideal)) (k0_pay133 (F := Ideal) (k0_pay119 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay99 (F := Ideal) cs1) (k0_pay111 (F := Ideal) (k0_pay44 (F := Ideal)) (k0_pay45 (F := Ideal)) (k0_pay101 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1) (k0_pay105 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1))) ct2 cn2))
theorem pos1_row (X1 : Vec Ideal S512x768 .f32) (p : Fin 512) (j : Fin 3) :
    pos1 w0 w1 w2 w3 ct0 ct1 ct2 cn0 cn1 cn2 cs0 cs1 X1 (ix2 p j) = Ideal.fptosi 32 ((par w0 w1 w2 w3 u0 u1 u2 u3 ct0 ct1 ct2 cn0 cn1 cn2 cs0 cs1 cs2).ind (mat X1 p) j) := by
  unfold pos1 k0_pay155
  refine (cols _ _ _ p j).trans ?_
  simp only [par, Par.ind, Par.r2, Par.r1, Par.r0, enc, pickw, rest, code,
    row47, row48, row49, row50, row51, row52, row53, row54, row55, row56, row57, row58, row67, row68,
    row69, row70, row71, row72, row74, row75, row76, row77, row78, row79, row80, row84, row85, row86,
    row87, row88, row89, row90, row91, row92, row93, row94, row95, row96, row100, row101, row102, row103,
    row104, row105, row106, row107, row108, row109, row110, row111, row114, row115, row116, row117, row118, row119,
    row120, row121, row122, row123, row124, row125, row126, row127, row128, row132, row133, row134, row137, row138,
    row139, row140, row141, row143, row144, row145, row146, row147, row148, row149, row150, row151, row152, row153,
    row158, row159, row160, row161, row162, row163, row164, row165, row166, row167, row168, row46, row59, row60,
    row61, row62, row1, row63, row97, row64, row130, row66, row99, row131]

/-- Slice 0 of the positions. -/
def pos0 (X0 : Vec Ideal S512x768 .f32) : Vec Ideal S512x3 .i32 :=
  k0_pay154 (F := Ideal) (k0_pay74 (F := Ideal) (k0_pay44 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32)) (k0_pay106 (F := Ideal) (k0_pay44 (F := Ideal)) (k0_pay100 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1) (k0_pay104 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1)) (k0_pay137 (F := Ideal) (k0_pay44 (F := Ideal)) (k0_pay132 (F := Ideal) (k0_pay118 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay99 (F := Ideal) cs1) (k0_pay110 (F := Ideal) (k0_pay44 (F := Ideal)) (k0_pay45 (F := Ideal)) (k0_pay100 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1) (k0_pay104 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1))) ct2 cn2))
theorem pos0_row (X0 : Vec Ideal S512x768 .f32) (p : Fin 512) (j : Fin 3) :
    pos0 w0 w1 w2 w3 ct0 ct1 ct2 cn0 cn1 cn2 cs0 cs1 X0 (ix2 p j) = Ideal.fptosi 32 ((par w0 w1 w2 w3 u0 u1 u2 u3 ct0 ct1 ct2 cn0 cn1 cn2 cs0 cs1 cs2).ind (mat X0 p) j) := by
  unfold pos0 k0_pay154
  refine (cols _ _ _ p j).trans ?_
  simp only [par, Par.ind, Par.r2, Par.r1, Par.r0, enc, pickw, rest, code,
    row47, row48, row49, row50, row51, row52, row53, row54, row55, row56, row57, row58, row67, row68,
    row69, row70, row71, row72, row74, row75, row76, row77, row78, row79, row80, row84, row85, row86,
    row87, row88, row89, row90, row91, row92, row93, row94, row95, row96, row100, row101, row102, row103,
    row104, row105, row106, row107, row108, row109, row110, row111, row114, row115, row116, row117, row118, row119,
    row120, row121, row122, row123, row124, row125, row126, row127, row128, row132, row133, row134, row137, row138,
    row139, row140, row141, row143, row144, row145, row146, row147, row148, row149, row150, row151, row152, row153,
    row158, row159, row160, row161, row162, row163, row164, row165, row166, row167, row168, row46, row59, row60,
    row61, row62, row1, row63, row97, row64, row130, row66, row99, row131]

/-- The sum of squares of the tile added to what stood there. -/
def tot (X0 X1 X2 X3 : Vec Ideal S512x768 .f32) (acc : Vec Ideal S1x1 .f32) : Vec Ideal S1x1 .f32 :=
  k0_pay1 (F := Ideal) (k0_pay152 (F := Ideal) (k0_pay147 (F := Ideal) (k0_pay45 (F := Ideal)) (k0_pay121 (F := Ideal) (k0_pay45 (F := Ideal)) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay99 (F := Ideal) cs1) (k0_pay109 (F := Ideal) (k0_pay44 (F := Ideal)) (k0_pay103 (F := Ideal) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay97 (F := Ideal) ct1) cn1))) (k0_pay131 (F := Ideal) cs2) (k0_pay140 (F := Ideal) (k0_pay44 (F := Ideal)) (k0_pay130 (F := Ideal) cn2) (k0_pay135 (F := Ideal) (k0_pay121 (F := Ideal) (k0_pay45 (F := Ideal)) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay99 (F := Ideal) cs1) (k0_pay109 (F := Ideal) (k0_pay44 (F := Ideal)) (k0_pay103 (F := Ideal) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay97 (F := Ideal) ct1) cn1))) ct2) (k0_pay136 (F := Ideal) (k0_pay121 (F := Ideal) (k0_pay45 (F := Ideal)) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay99 (F := Ideal) cs1) (k0_pay109 (F := Ideal) (k0_pay44 (F := Ideal)) (k0_pay103 (F := Ideal) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay97 (F := Ideal) ct1) cn1)))))) (k0_pay149 (F := Ideal) (k0_pay118 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay99 (F := Ideal) cs1) (k0_pay110 (F := Ideal) (k0_pay44 (F := Ideal)) (k0_pay45 (F := Ideal)) (k0_pay100 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1) (k0_pay104 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1))) (k0_pay119 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay99 (F := Ideal) cs1) (k0_pay111 (F := Ideal) (k0_pay44 (F := Ideal)) (k0_pay45 (F := Ideal)) (k0_pay101 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1) (k0_pay105 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1))) (k0_pay127 (F := Ideal) (k0_pay124 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay95 (F := Ideal) (k0_pay46 (F := Ideal)) (k0_pay55 (F := Ideal) (k0_pay52 (F := Ideal) (k0_pay47 (F := Ideal) X0 w0) w1 w2) w3) (k0_pay56 (F := Ideal) (k0_pay53 (F := Ideal) (k0_pay48 (F := Ideal) X1 w0) w1 w2) w3) (k0_pay57 (F := Ideal) (k0_pay54 (F := Ideal) (k0_pay49 (F := Ideal) X2 w0) w1 w2) w3) (k0_pay58 (F := Ideal) (k0_pay51 (F := Ideal) (k0_pay50 (F := Ideal) X3 w0) w1) w2 w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0))) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0))) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay99 (F := Ideal) cs1) (k0_pay110 (F := Ideal) (k0_pay44 (F := Ideal)) (k0_pay45 (F := Ideal)) (k0_pay100 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1) (k0_pay104 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1)) (k0_pay111 (F := Ideal) (k0_pay44 (F := Ideal)) (k0_pay45 (F := Ideal)) (k0_pay101 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1) (k0_pay105 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1)) (k0_pay112 (F := Ideal) (k0_pay44 (F := Ideal)) (k0_pay45 (F := Ideal)) (k0_pay102 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay97 (F := Ideal) ct1) cn1)) (FloatOps.ofBits FTy.bf16 0#16) (k0_pay113 (F := Ideal))) (k0_pay126 (F := Ideal) (k0_pay45 (F := Ideal)) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay99 (F := Ideal) cs1) (k0_pay109 (F := Ideal) (k0_pay44 (F := Ideal)) (k0_pay103 (F := Ideal) (k0_pay91 (F := Ideal) (k0_pay58 (F := Ideal) (k0_pay51 (F := Ideal) (k0_pay50 (F := Ideal) X3 w0) w1) w2 w3) (k0_pay66 (F := Ideal) (k0_pay65 (F := Ideal) cs0)) (k0_pay81 (F := Ideal) (k0_pay44 (F := Ideal)) (k0_pay45 (F := Ideal)) (k0_pay69 (F := Ideal) (k0_pay58 (F := Ideal) (k0_pay51 (F := Ideal) (k0_pay50 (F := Ideal) X3 w0) w1) w2 w3) (k0_pay63 (F := Ideal) ct0) (k0_pay64 (F := Ideal) cn0)) (k0_pay72 (F := Ideal) (k0_pay58 (F := Ideal) (k0_pay51 (F := Ideal) (k0_pay50 (F := Ideal) X3 w0) w1) w2 w3) (k0_pay63 (F := Ideal) ct0) (k0_pay64 (F := Ideal) cn0))) (k0_pay82 (F := Ideal)) (k0_pay83 (F := Ideal))) (k0_pay97 (F := Ideal) ct1) cn1)))) (k0_pay131 (F := Ideal) cs2) (k0_pay141 (F := Ideal) (k0_pay44 (F := Ideal)) (k0_pay45 (F := Ideal)) (k0_pay132 (F := Ideal) (k0_pay118 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay99 (F := Ideal) cs1) (k0_pay110 (F := Ideal) (k0_pay44 (F := Ideal)) (k0_pay45 (F := Ideal)) (k0_pay100 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1) (k0_pay104 (F := Ideal) (k0_pay88 (F := Ideal) (k0_pay55 (F := Ideal) (k0_pay52 (F := Ideal) (k0_pay47 (F := Ideal) X0 w0) w1 w2) w3) (k0_pay66 (F := Ideal) (k0_pay65 (F := Ideal) cs0)) (k0_pay78 (F := Ideal) (k0_pay44 (F := Ideal)) (k0_pay45 (F := Ideal)) (k0_pay73 (F := Ideal) (k0_pay55 (F := Ideal) (k0_pay52 (F := Ideal) (k0_pay47 (F := Ideal) X0 w0) w1 w2) w3) (k0_pay63 (F := Ideal) ct0) (k0_pay64 (F := Ideal) cn0)) (FloatOps.ofBits FTy.f32 1132462080#32))) (k0_pay97 (F := Ideal) ct1) cn1))) ct2 cn2)) (k0_pay142 (F := Ideal) (k0_pay44 (F := Ideal)) (k0_pay45 (F := Ideal)) (k0_pay133 (F := Ideal) (k0_pay119 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay99 (F := Ideal) cs1) (k0_pay111 (F := Ideal) (k0_pay44 (F := Ideal)) (k0_pay45 (F := Ideal)) (k0_pay101 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1) (k0_pay105 (F := Ideal) (k0_pay89 (F := Ideal) (k0_pay56 (F := Ideal) (k0_pay53 (F := Ideal) (k0_pay48 (F := Ideal) X1 w0) w1 w2) w3) (k0_pay66 (F := Ideal) (k0_pay65 (F := Ideal) cs0)) (k0_pay79 (F := Ideal) (k0_pay44 (F := Ideal)) (k0_pay45 (F := Ideal)) (k0_pay67 (F := Ideal) (k0_pay56 (F := Ideal) (k0_pay53 (F := Ideal) (k0_pay48 (F := Ideal) X1 w0) w1 w2) w3) (k0_pay63 (F := Ideal) ct0) (k0_pay64 (F := Ideal) cn0)) (k0_pay70 (F := Ideal) (k0_pay56 (F := Ideal) (k0_pay53 (F := Ideal) (k0_pay48 (F := Ideal) X1 w0) w1 w2) w3) (k0_pay63 (F := Ideal) ct0) (k0_pay64 (F := Ideal) cn0)))) (k0_pay97 (F := Ideal) ct1) cn1))) ct2 cn2)) (FloatOps.ofBits FTy.bf16 16256#16) (FloatOps.ofBits FTy.bf16 0#16)) (k0_pay151 (F := Ideal) (k0_pay45 (F := Ideal)) (k0_pay120 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay99 (F := Ideal) cs1) (k0_pay112 (F := Ideal) (k0_pay44 (F := Ideal)) (k0_pay45 (F := Ideal)) (k0_pay102 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay97 (F := Ideal) ct1) cn1)) (FloatOps.ofBits FTy.bf16 0#16) (k0_pay113 (F := Ideal))) (k0_pay131 (F := Ideal) cs2) (k0_pay139 (F := Ideal) (k0_pay44 (F := Ideal)) (k0_pay134 (F := Ideal) (k0_pay120 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay99 (F := Ideal) cs1) (k0_pay112 (F := Ideal) (k0_pay44 (F := Ideal)) (k0_pay45 (F := Ideal)) (k0_pay102 (F := Ideal) (k0_pay90 (F := Ideal) (k0_pay57 (F := Ideal) (k0_pay54 (F := Ideal) (k0_pay49 (F := Ideal) X2 w0) w1 w2) w3) (k0_pay66 (F := Ideal) (k0_pay65 (F := Ideal) cs0)) (k0_pay80 (F := Ideal) (k0_pay44 (F := Ideal)) (k0_pay45 (F := Ideal)) (k0_pay68 (F := Ideal) (k0_pay57 (F := Ideal) (k0_pay54 (F := Ideal) (k0_pay49 (F := Ideal) X2 w0) w1 w2) w3) (k0_pay63 (F := Ideal) ct0) (k0_pay64 (F := Ideal) cn0)) (k0_pay71 (F := Ideal) (k0_pay57 (F := Ideal) (k0_pay54 (F := Ideal) (k0_pay49 (F := Ideal) X2 w0) w1 w2) w3) (k0_pay63 (F := Ideal) ct0) (k0_pay64 (F := Ideal) cn0)))) (k0_pay97 (F := Ideal) ct1) cn1)) (FloatOps.ofBits FTy.bf16 0#16) (k0_pay113 (F := Ideal))) ct2 cn2)))) acc
theorem tot_eq (X0 X1 X2 X3 : Vec Ideal S512x768 .f32) (acc : Vec Ideal S1x1 .f32) :
    mat (tot w0 w1 w2 w3 ct0 ct1 ct2 cn0 cn1 cn2 cs0 cs1 cs2 X0 X1 X2 X3 acc) 0 0
      = mat acc 0 0 + (par w0 w1 w2 w3 u0 u1 u2 u3 ct0 ct1 ct2 cn0 cn1 cn2 cs0 cs1 cs2).sum4 (mat X0) (mat X1) (mat X2) (mat X3) * Ideal.ofBits FTy.f32 0x36200000#32 := by
  simp only [tot, par, Par.sum4, Par.l1, Par.l2, Par.l3, Par.r3, Par.r2, Par.r1, Par.r0, enc, pickw, rest, code,
    row47, row48, row49, row50, row51, row52, row53, row54, row55, row56, row57, row58, row67, row68,
    row69, row70, row71, row72, row74, row75, row76, row77, row78, row79, row80, row84, row85, row86,
    row87, row88, row89, row90, row91, row92, row93, row94, row95, row96, row100, row101, row102, row103,
    row104, row105, row106, row107, row108, row109, row110, row111, row114, row115, row116, row117, row118, row119,
    row120, row121, row122, row123, row124, row125, row126, row127, row128, row132, row133, row134, row137, row138,
    row139, row140, row141, row143, row144, row145, row146, row147, row148, row149, row150, row151, row152, row153,
    row158, row159, row160, row161, row162, row163, row164, row165, row166, row167, row168, row46, row59, row60,
    row61, row62, row1, row63, row97, row64, row130, row66, row99, row131]

end Cert.KernelIdeal.Hand

end
end
-- ==== Proof.KCanon.lean ====
module
public import proofs.«01_k».proof.Proof.KTile
public import proofs.«01_k».proof.Proof.Gen.KernelIdeal.Value

/-! A tile stored slice by slice, and the tables read out of the arrays that hold them. -/

@[expose] public section

set_option maxRecDepth 16384

noncomputable section

namespace Cert.KernelIdeal.Hand

open Idealize.ShloMosaic Idealize.ShloMosaic.TcCoe Idealize.SL.Sem Cert.Rows Cert.KernelIdeal.Gen

/-- A load of a whole buffer holding `X` reads `X` at the indices of its rectangle. -/
theorem readAt_fun {sig : RefSig} {κ : Kind} {sp : Space} {s : Shape} {e : EltTy} {Val : EltTy → Type} {m : Memref sig κ sp s e}
    (h : m.IsWhole) (X : s.Idx → Val e) (B : LoadRect s) :
    m.view.readAt Val B (h.unread X) = fun j => X (B.idx j) :=
  funext fun x => by rw [View.readAt_apply, h.read_unread]

/-- A matrix loaded whole. -/
theorem mat_idx {n k : Nat} (X : (⟨2, ![n, k]⟩ : Shape).Idx → EReal) (inb : ∀ a, (![0, 0] : Fin 2 → Nat) a + (![n, k] : Fin 2 → Nat) a ≤ (⟨2, ![n, k]⟩ : Shape).size a) :
    mat (n := n) (k := k) (fun j => X ((Rect.unit (s := ⟨2, ![n, k]⟩) ![0, 0] ![n, k] inb).toLoadRect.idx j)) = mat X := by
  funext a b
  refine congrArg X (funext fun i => Fin.ext ?_)
  fin_cases i
  · show 0 + 1 * a.val = a.val; omega
  · show 0 + 1 * b.val = b.val; omega

/-- Rows of a matrix loaded from row `o` on. -/
theorem mat_rows {n k m : Nat} (o : Nat) (X : (⟨2, ![n, k]⟩ : Shape).Idx → EReal) (inb : ∀ a, (![o, 0] : Fin 2 → Nat) a + (![m, k] : Fin 2 → Nat) a ≤ (⟨2, ![n, k]⟩ : Shape).size a)
    (p : Fin m) (h : o + p.val < n) :
    mat (n := m) (k := k) (fun j => X ((Rect.unit (s := ⟨2, ![n, k]⟩) ![o, 0] ![m, k] inb).toLoadRect.idx j)) p = mat X ⟨o + p.val, h⟩ := by
  funext b
  refine congrArg X (funext fun i => Fin.ext ?_)
  fin_cases i
  · show o + 1 * p.val = o + p.val; omega
  · show 0 + 1 * b.val = b.val; omega

/-- One slab of a rank-3 array loaded. -/
theorem slab_idx {m n k : Nat} (r : Fin m) (X : (⟨3, ![m, n, k]⟩ : Shape).Idx → EReal) (inb : ∀ a, (![r.val, 0, 0] : Fin 3 → Nat) a + (![1, n, k] : Fin 3 → Nat) a ≤ (⟨3, ![m, n, k]⟩ : Shape).size a) :
    slab (n := n) (k := k) (fun j => X ((Rect.unit (s := ⟨3, ![m, n, k]⟩) ![r.val, 0, 0] ![1, n, k] inb).toLoadRect.idx j)) = fun i j => X (ix3 r i j) := by
  funext a b
  refine congrArg X (funext fun i => Fin.ext ?_)
  fin_cases i
  · show r.val + 1 * 0 = r.val; omega
  · show 0 + 1 * a.val = a.val; omega
  · show 0 + 1 * b.val = b.val; omega

/-- Three stacked tables out of a rank-4 array. -/
def stackAt (X : (⟨4, ![3, 3, 256, 32]⟩ : Shape).Idx → EReal) (r : Fin 3) : Mat 768 32 := fun i j =>
  X (ix4 r ⟨i.val / 256, by omega⟩ ⟨i.val % 256, Nat.mod_lt _ (by norm_num)⟩ j)

theorem stack_idx (r : Fin 3) (X : (⟨4, ![3, 3, 256, 32]⟩ : Shape).Idx → EReal) (inb : ∀ a, (![r.val, 0, 0, 0] : Fin 4 → Nat) a + (![1, 3, 256, 32] : Fin 4 → Nat) a ≤ (⟨4, ![3, 3, 256, 32]⟩ : Shape).size a) :
    stack (fun j => X ((Rect.unit (s := ⟨4, ![3, 3, 256, 32]⟩) ![r.val, 0, 0, 0] ![1, 3, 256, 32] inb).toLoadRect.idx j)) = stackAt X r := by
  funext a b
  refine congrArg X (funext fun i => Fin.ext ?_)
  fin_cases i
  · show r.val + 1 * 0 = r.val; omega
  · show 0 + 1 * (a.val / 256) = a.val / 256; omega
  · show 0 + 1 * (a.val % 256) = a.val % 256; omega
  · show 0 + 1 * b.val = b.val; omega

/-- The tables of a tile from the arrays held between grid points. -/
def held (xs0 : Vec Ideal S768x512 .bf16) (xs1 : Vec Ideal S512x256 .bf16) (xs2 : Vec Ideal S256x128 .bf16) (xs3 : Vec Ideal S128x32 .bf16) (xs4 : Vec Ideal S32x128 .bf16) (xs5 : Vec Ideal S128x256 .bf16) (xs6 : Vec Ideal S256x512 .bf16) (xs7 : Vec Ideal S512x768 .bf16) (xs8 : Vec Ideal S3x32x256 .bf16) (xs9 : Vec Ideal S3x3x256x32 .bf16) (xs10 : Vec Ideal S3x1x256 .f32) : Par :=
  Par.mk (mat xs0) (mat xs1) (mat xs2) (mat xs3) (mat xs4) (mat xs5) (mat xs6) (mat xs7)
    (fun i j => xs8 (ix3 0 i j)) (fun i j => xs8 (ix3 1 i j)) (fun i j => xs8 (ix3 2 i j))
    (fun j => xs10 (ix3 0 0 j)) (fun j => xs10 (ix3 1 0 j)) (fun j => xs10 (ix3 2 0 j))
    (stackAt xs9 0) (stackAt xs9 1) (stackAt xs9 2)

theorem Par_congr {w0 w0' : Mat 768 512} {w1 w1' : Mat 512 256} {w2 w2' : Mat 256 128} {w3 w3' : Mat 128 32} {u0 u0' : Mat 32 128} {u1 u1' : Mat 128 256} {u2 u2' : Mat 256 512} {u3 u3' : Mat 512 768} {t0 t0' : Mat 32 256} {t1 t1' : Mat 32 256} {t2 t2' : Mat 32 256} {n0 n0' : Row 256} {n1 n1' : Row 256} {n2 n2' : Row 256} {s0 s0' : Mat 768 32} {s1 s1' : Mat 768 32} {s2 s2' : Mat 768 32}
    (hw0 : w0 = w0') (hw1 : w1 = w1') (hw2 : w2 = w2') (hw3 : w3 = w3') (hu0 : u0 = u0') (hu1 : u1 = u1') (hu2 : u2 = u2') (hu3 : u3 = u3') (ht0 : t0 = t0') (ht1 : t1 = t1') (ht2 : t2 = t2') (hn0 : n0 = n0') (hn1 : n1 = n1') (hn2 : n2 = n2') (hs0 : s0 = s0') (hs1 : s1 = s1') (hs2 : s2 = s2') :
    Par.mk w0 w1 w2 w3 u0 u1 u2 u3 t0 t1 t2 n0 n1 n2 s0 s1 s2 = Par.mk w0' w1' w2' w3' u0' u1' u2' u3' t0' t1' t2' n0' n1' n2' s0' s1' s2' := by
  subst hw0 hw1 hw2 hw3 hu0 hu1 hu2 hu3 ht0 ht1 ht2 hn0 hn1 hn2 hs0 hs1 hs2; rfl

/-- The positions do not depend on the decoder, nor on the last code words. -/
theorem ind_congr (P : Par) {w0 : Mat 768 512} {w1 : Mat 512 256} {w2 : Mat 256 128} {w3 : Mat 128 32} {u0 : Mat 32 128} {u1 : Mat 128 256} {u2 : Mat 256 512} {u3 : Mat 512 768} {t0 : Mat 32 256} {t1 : Mat 32 256} {t2 : Mat 32 256} {n0 : Row 256} {n1 : Row 256} {n2 : Row 256} {s0 : Mat 768 32} {s1 : Mat 768 32} {s2 : Mat 768 32} (x : Row 768)
    (hw0 : w0 = P.w0) (hw1 : w1 = P.w1) (hw2 : w2 = P.w2) (hw3 : w3 = P.w3) (ht0 : t0 = P.t0) (ht1 : t1 = P.t1) (ht2 : t2 = P.t2) (hn0 : n0 = P.n0) (hn1 : n1 = P.n1) (hn2 : n2 = P.n2) (hs0 : s0 = P.s0) (hs1 : s1 = P.s1) :
    Par.ind (Par.mk w0 w1 w2 w3 u0 u1 u2 u3 t0 t1 t2 n0 n1 n2 s0 s1 s2) x = P.ind x := by
  subst hw0 hw1 hw2 hw3 ht0 ht1 ht2 hn0 hn1 hn2 hs0 hs1; rfl

/-- The sum of squares does not depend on the decoder. -/
theorem sum4_congr (P : Par) {w0 : Mat 768 512} {w1 : Mat 512 256} {w2 : Mat 256 128} {w3 : Mat 128 32} {u0 : Mat 32 128} {u1 : Mat 128 256} {u2 : Mat 256 512} {u3 : Mat 512 768} {t0 : Mat 32 256} {t1 : Mat 32 256} {t2 : Mat 32 256} {n0 : Row 256} {n1 : Row 256} {n2 : Row 256} {s0 : Mat 768 32} {s1 : Mat 768 32} {s2 : Mat 768 32} (A B C D : Mat 512 768)
    (hw0 : w0 = P.w0) (hw1 : w1 = P.w1) (hw2 : w2 = P.w2) (hw3 : w3 = P.w3) (ht0 : t0 = P.t0) (ht1 : t1 = P.t1) (ht2 : t2 = P.t2) (hn0 : n0 = P.n0) (hn1 : n1 = P.n1) (hn2 : n2 = P.n2) (hs0 : s0 = P.s0) (hs1 : s1 = P.s1) (hs2 : s2 = P.s2) :
    Par.sum4 (Par.mk w0 w1 w2 w3 u0 u1 u2 u3 t0 t1 t2 n0 n1 n2 s0 s1 s2) A B C D = P.sum4 A B C D := by
  subst hw0 hw1 hw2 hw3 ht0 ht1 ht2 hn0 hn1 hn2 hs0 hs1 hs2; rfl

/-- 512 rows from row `o` on. -/
def tile (x0 : Vec Ideal S2048x768 .f32) (o : Fin 4) : Mat 512 768 := fun p => mat x0 ⟨512 * o.val + p.val, by omega⟩

/-- Four slices of 512 rows, stored one below the other. -/
theorem rows_canon (Q : Row 768 → Fin 768 → EReal) (x0 : Vec Ideal S2048x768 .f32) (A B C D : Vec Ideal S512x768 .f32)
    (hA : ∀ (p : Fin 512) (j : Fin 768), A (ix2 p j) = Q (mat x0 ⟨0 + p.val, by omega⟩) j) (hB : ∀ (p : Fin 512) (j : Fin 768), B (ix2 p j) = Q (mat x0 ⟨512 + p.val, by omega⟩) j)
    (hC : ∀ (p : Fin 512) (j : Fin 768), C (ix2 p j) = Q (mat x0 ⟨1024 + p.val, by omega⟩) j) (hD : ∀ (p : Fin 512) (j : Fin 768), D (ix2 p j) = Q (mat x0 ⟨1536 + p.val, by omega⟩) j) :
    View.canon (Val := Elt Ideal) (s := S2048x768) (e := .f32) [⟨Rect.unit ![1536, 0] S512x768.size inb_S2048x768_S512x768_1536_0, D⟩, ⟨Rect.unit ![1024, 0] S512x768.size inb_S2048x768_S512x768_1024_0, C⟩,
      ⟨Rect.unit ![512, 0] S512x768.size inb_S2048x768_S512x768_512_0, B⟩, ⟨Rect.unit ![0, 0] S512x768.size inb_S2048x768_S512x768_0_0, A⟩] =
    fun y => Q (mat x0 (y 0)) (y 1) := by
  funext y
  refine View.canon_apply_of_pieces (Val := Elt Ideal) (S := S2048x768) (e := .f32) (fun y => Q (mat x0 (y 0)) (y 1)) _ ?_ y ?_
  · intro q hq x
    simp only [List.mem_cons, List.not_mem_nil, or_false] at hq
    rcases hq with rfl | rfl | rfl | rfl
    · refine ((congrArg D (eq_ix2 x)).trans (hD (x 0) (x 1))).trans ?_
      refine congrArg₂ (fun a b => Q (mat x0 a) b) (Fin.ext ?_) (Fin.ext ?_)
      · show 1536 + (x 0).val = 1536 + 1 * (x 0).val; omega
      · show (x 1).val = 0 + 1 * (x 1).val; omega
    · refine ((congrArg C (eq_ix2 x)).trans (hC (x 0) (x 1))).trans ?_
      refine congrArg₂ (fun a b => Q (mat x0 a) b) (Fin.ext ?_) (Fin.ext ?_)
      · show 1024 + (x 0).val = 1024 + 1 * (x 0).val; omega
      · show (x 1).val = 0 + 1 * (x 1).val; omega
    · refine ((congrArg B (eq_ix2 x)).trans (hB (x 0) (x 1))).trans ?_
      refine congrArg₂ (fun a b => Q (mat x0 a) b) (Fin.ext ?_) (Fin.ext ?_)
      · show 512 + (x 0).val = 512 + 1 * (x 0).val; omega
      · show (x 1).val = 0 + 1 * (x 1).val; omega
    · refine ((congrArg A (eq_ix2 x)).trans (hA (x 0) (x 1))).trans ?_
      refine congrArg₂ (fun a b => Q (mat x0 a) b) (Fin.ext ?_) (Fin.ext ?_)
      · show 0 + (x 0).val = 0 + 1 * (x 0).val; omega
      · show (x 1).val = 0 + 1 * (x 1).val; omega
  · have h0 : (y 0).val < 2048 := (y 0).isLt
    have h1 : (y 1).val < 768 := (y 1).isLt
    rcases (by omega : 1536 ≤ (y 0).val ∨ (1024 ≤ (y 0).val ∧ (y 0).val < 1536) ∨ (512 ≤ (y 0).val ∧ (y 0).val < 1024) ∨ (y 0).val < 512) with h | h | h | h
    · refine ⟨_, List.mem_cons_self, (Rect.mem_set_unit (inb := inb_S2048x768_S512x768_1536_0)).mpr (Fin.forall_fin_two.mpr ⟨?_, ?_⟩)⟩
      · show 1536 ≤ (y 0).val ∧ (y 0).val < 1536 + 512; omega
      · show 0 ≤ (y 1).val ∧ (y 1).val < 0 + 768; omega
    · refine ⟨_, List.mem_cons_of_mem _ (List.mem_cons_self), (Rect.mem_set_unit (inb := inb_S2048x768_S512x768_1024_0)).mpr (Fin.forall_fin_two.mpr ⟨?_, ?_⟩)⟩
      · show 1024 ≤ (y 0).val ∧ (y 0).val < 1024 + 512; omega
      · show 0 ≤ (y 1).val ∧ (y 1).val < 0 + 768; omega
    · refine ⟨_, List.mem_cons_of_mem _ (List.mem_cons_of_mem _ (List.mem_cons_self)), (Rect.mem_set_unit (inb := inb_S2048x768_S512x768_512_0)).mpr (Fin.forall_fin_two.mpr ⟨?_, ?_⟩)⟩
      · show 512 ≤ (y 0).val ∧ (y 0).val < 512 + 512; omega
      · show 0 ≤ (y 1).val ∧ (y 1).val < 0 + 768; omega
    · refine ⟨_, List.mem_cons_of_mem _ (List.mem_cons_of_mem _ (List.mem_cons_of_mem _ (List.mem_cons_self))), (Rect.mem_set_unit (inb := inb_S2048x768_S512x768_0_0)).mpr (Fin.forall_fin_two.mpr ⟨?_, ?_⟩)⟩
      · show 0 ≤ (y 0).val ∧ (y 0).val < 0 + 512; omega
      · show 0 ≤ (y 1).val ∧ (y 1).val < 0 + 768; omega

/-- Four slices of 512 rows, stored one below the other. -/
theorem cells_canon (Q : Row 768 → Fin 3 → BitVec 32) (x0 : Vec Ideal S2048x768 .f32) (A B C D : Vec Ideal S512x3 .i32)
    (hA : ∀ (p : Fin 512) (j : Fin 3), A (ix2 p j) = Q (mat x0 ⟨0 + p.val, by omega⟩) j) (hB : ∀ (p : Fin 512) (j : Fin 3), B (ix2 p j) = Q (mat x0 ⟨512 + p.val, by omega⟩) j)
    (hC : ∀ (p : Fin 512) (j : Fin 3), C (ix2 p j) = Q (mat x0 ⟨1024 + p.val, by omega⟩) j) (hD : ∀ (p : Fin 512) (j : Fin 3), D (ix2 p j) = Q (mat x0 ⟨1536 + p.val, by omega⟩) j) :
    View.canon (Val := Elt Ideal) (s := S2048x3) (e := .i32) [⟨Rect.unit ![1536, 0] S512x3.size inb_S2048x3_S512x3_1536_0, D⟩, ⟨Rect.unit ![1024, 0] S512x3.size inb_S2048x3_S512x3_1024_0, C⟩,
      ⟨Rect.unit ![512, 0] S512x3.size inb_S2048x3_S512x3_512_0, B⟩, ⟨Rect.unit ![0, 0] S512x3.size inb_S2048x3_S512x3_0_0, A⟩] =
    fun y => Q (mat x0 (y 0)) (y 1) := by
  funext y
  refine View.canon_apply_of_pieces (Val := Elt Ideal) (S := S2048x3) (e := .i32) (fun y => Q (mat x0 (y 0)) (y 1)) _ ?_ y ?_
  · intro q hq x
    simp only [List.mem_cons, List.not_mem_nil, or_false] at hq
    rcases hq with rfl | rfl | rfl | rfl
    · refine ((congrArg D (eq_ix2 x)).trans (hD (x 0) (x 1))).trans ?_
      refine congrArg₂ (fun a b => Q (mat x0 a) b) (Fin.ext ?_) (Fin.ext ?_)
      · show 1536 + (x 0).val = 1536 + 1 * (x 0).val; omega
      · show (x 1).val = 0 + 1 * (x 1).val; omega
    · refine ((congrArg C (eq_ix2 x)).trans (hC (x 0) (x 1))).trans ?_
      refine congrArg₂ (fun a b => Q (mat x0 a) b) (Fin.ext ?_) (Fin.ext ?_)
      · show 1024 + (x 0).val = 1024 + 1 * (x 0).val; omega
      · show (x 1).val = 0 + 1 * (x 1).val; omega
    · refine ((congrArg B (eq_ix2 x)).trans (hB (x 0) (x 1))).trans ?_
      refine congrArg₂ (fun a b => Q (mat x0 a) b) (Fin.ext ?_) (Fin.ext ?_)
      · show 512 + (x 0).val = 512 + 1 * (x 0).val; omega
      · show (x 1).val = 0 + 1 * (x 1).val; omega
    · refine ((congrArg A (eq_ix2 x)).trans (hA (x 0) (x 1))).trans ?_
      refine congrArg₂ (fun a b => Q (mat x0 a) b) (Fin.ext ?_) (Fin.ext ?_)
      · show 0 + (x 0).val = 0 + 1 * (x 0).val; omega
      · show (x 1).val = 0 + 1 * (x 1).val; omega
  · have h0 : (y 0).val < 2048 := (y 0).isLt
    have h1 : (y 1).val < 3 := (y 1).isLt
    rcases (by omega : 1536 ≤ (y 0).val ∨ (1024 ≤ (y 0).val ∧ (y 0).val < 1536) ∨ (512 ≤ (y 0).val ∧ (y 0).val < 1024) ∨ (y 0).val < 512) with h | h | h | h
    · refine ⟨_, List.mem_cons_self, (Rect.mem_set_unit (inb := inb_S2048x3_S512x3_1536_0)).mpr (Fin.forall_fin_two.mpr ⟨?_, ?_⟩)⟩
      · show 1536 ≤ (y 0).val ∧ (y 0).val < 1536 + 512; omega
      · show 0 ≤ (y 1).val ∧ (y 1).val < 0 + 3; omega
    · refine ⟨_, List.mem_cons_of_mem _ (List.mem_cons_self), (Rect.mem_set_unit (inb := inb_S2048x3_S512x3_1024_0)).mpr (Fin.forall_fin_two.mpr ⟨?_, ?_⟩)⟩
      · show 1024 ≤ (y 0).val ∧ (y 0).val < 1024 + 512; omega
      · show 0 ≤ (y 1).val ∧ (y 1).val < 0 + 3; omega
    · refine ⟨_, List.mem_cons_of_mem _ (List.mem_cons_of_mem _ (List.mem_cons_self)), (Rect.mem_set_unit (inb := inb_S2048x3_S512x3_512_0)).mpr (Fin.forall_fin_two.mpr ⟨?_, ?_⟩)⟩
      · show 512 ≤ (y 0).val ∧ (y 0).val < 512 + 512; omega
      · show 0 ≤ (y 1).val ∧ (y 1).val < 0 + 3; omega
    · refine ⟨_, List.mem_cons_of_mem _ (List.mem_cons_of_mem _ (List.mem_cons_of_mem _ (List.mem_cons_self))), (Rect.mem_set_unit (inb := inb_S2048x3_S512x3_0_0)).mpr (Fin.forall_fin_two.mpr ⟨?_, ?_⟩)⟩
      · show 0 ≤ (y 0).val ∧ (y 0).val < 0 + 512; omega
      · show 0 ≤ (y 1).val ∧ (y 1).val < 0 + 3; omega

end Cert.KernelIdeal.Hand

end
end
-- ==== Proof.KOpenA.lean ====
module
public import proofs.«01_k».proof.Proof.KCanon

/-! What one grid point stores. -/

@[expose] public section

set_option maxRecDepth 16384

noncomputable section

namespace Cert.KernelIdeal.Hand

open Idealize.ShloMosaic Idealize.ShloMosaic.TcCoe Idealize.SL.Sem Cert.Rows Cert.KernelIdeal.Gen

theorem out0_A_10_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = fun y => (held (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9)).out (mat x0 (y 0)) (y 1) := by
  generalize h0 : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs0
  generalize h1 : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs1
  generalize h2 : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs2
  generalize h3 : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs3
  generalize h4 : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs4
  generalize h5 : sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs5
  generalize h6 : sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs6
  generalize h7 : sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs7
  generalize h8 : sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs8
  generalize h9 : sout0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs9
  generalize h10 : sout0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs10
  revert h0 h1 h2 h3 h4 h5 h6 h7 h8 h9 h10
  unfold out0_A_10 sout0_A_0 sout0_A_1 sout0_A_2 sout0_A_3 sout0_A_4 sout0_A_5 sout0_A_6 sout0_A_7 sout0_A_8 sout0_A_9 sout0_A_10
  simp only [View.read_writes_junk_eq_canon]
  unfold kernelRun0_A
  dsimp only
  sl_unfold_words
  simp only [readAt_fun, View.readCov_eq_canon']
  intro h0 h1 h2 h3 h4 h5 h6 h7 h8 h9 h10
  simp only [h0, h1, h2, h3, h4, h5, h6, h7, h8, h9, h10]
  clear h0 h1 h2 h3 h4 h5 h6 h7 h8 h9 h10
  skip
  refine rows_canon (Par.out _) x0 _ _ _ _ ?_ ?_ ?_ ?_ <;> intro p j
  · refine (congrFun (rec0_row _ _ _ _ _ _ _ _ _ _ _ _ _ _ _ _ _ _ p) j).trans ?_
    refine congrFun (congrArg₂ Par.out ?_ (mat_rows 0 x0 _ p _)) j
    refine Par_congr (mat_idx _ _) (mat_idx _ _) (mat_idx _ _) (mat_idx _ _) (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _) (stack_idx 2 _ _)
  · refine (congrFun (rec1_row _ _ _ _ _ _ _ _ _ _ _ _ _ _ _ _ _ _ p) j).trans ?_
    refine congrFun (congrArg₂ Par.out ?_ (mat_rows 512 x0 _ p _)) j
    refine Par_congr (mat_idx _ _) (mat_idx _ _) (mat_idx _ _) (mat_idx _ _) (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _) (stack_idx 2 _ _)
  · refine (congrFun (rec2_row _ _ _ _ _ _ _ _ _ _ _ _ _ _ _ _ _ _ p) j).trans ?_
    refine congrFun (congrArg₂ Par.out ?_ (mat_rows 1024 x0 _ p _)) j
    refine Par_congr (mat_idx _ _) (mat_idx _ _) (mat_idx _ _) (mat_idx _ _) (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _) (stack_idx 2 _ _)
  · refine (congrFun (rec3_row _ _ _ _ _ _ _ _ _ _ _ _ _ _ _ _ _ _ p) j).trans ?_
    refine congrFun (congrArg₂ Par.out ?_ (mat_rows 1536 x0 _ p _)) j
    refine Par_congr (mat_idx _ _) (mat_idx _ _) (mat_idx _ _) (mat_idx _ _) (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _) (stack_idx 2 _ _)

theorem out0_A_11_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = fun y => Ideal.fptosi 32 ((held (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9)).ind (mat x0 (y 0)) (y 1)) := by
  generalize h0 : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs0
  generalize h1 : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs1
  generalize h2 : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs2
  generalize h3 : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs3
  generalize h4 : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs4
  generalize h5 : sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs5
  generalize h6 : sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs6
  generalize h7 : sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs7
  generalize h8 : sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs8
  generalize h9 : sout0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs9
  generalize h10 : sout0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs10
  revert h0 h1 h2 h3 h4 h5 h6 h7 h8 h9 h10
  unfold out0_A_11 sout0_A_0 sout0_A_1 sout0_A_2 sout0_A_3 sout0_A_4 sout0_A_5 sout0_A_6 sout0_A_7 sout0_A_8 sout0_A_9 sout0_A_10
  simp only [View.read_writes_junk_eq_canon]
  unfold kernelRun0_A
  dsimp only
  sl_unfold_words
  simp only [readAt_fun, View.readCov_eq_canon']
  intro h0 h1 h2 h3 h4 h5 h6 h7 h8 h9 h10
  simp only [h0, h1, h2, h3, h4, h5, h6, h7, h8, h9, h10]
  clear h0 h1 h2 h3 h4 h5 h6 h7 h8 h9 h10
  skip
  refine cells_canon (fun x j => Ideal.fptosi 32 (Par.ind _ x j)) x0 _ _ _ _ ?_ ?_ ?_ ?_ <;> intro p j
  · refine (pos0_row _ _ _ _ (fun _ => 0) (fun _ => 0) (fun _ => 0) (fun _ => 0) _ _ _ _ _ _ _ _ (fun _ => 0) _ p j).trans ?_
    refine congrArg (Ideal.fptosi 32) (congrFun ?_ j)
    exact (congrArg _ (mat_rows 0 x0 _ p _)).trans (ind_congr _ _ (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _))
  · refine (pos1_row _ _ _ _ (fun _ => 0) (fun _ => 0) (fun _ => 0) (fun _ => 0) _ _ _ _ _ _ _ _ (fun _ => 0) _ p j).trans ?_
    refine congrArg (Ideal.fptosi 32) (congrFun ?_ j)
    exact (congrArg _ (mat_rows 512 x0 _ p _)).trans (ind_congr _ _ (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _))
  · refine (pos2_row _ _ _ _ (fun _ => 0) (fun _ => 0) (fun _ => 0) (fun _ => 0) _ _ _ _ _ _ _ _ (fun _ => 0) _ p j).trans ?_
    refine congrArg (Ideal.fptosi 32) (congrFun ?_ j)
    exact (congrArg _ (mat_rows 1024 x0 _ p _)).trans (ind_congr _ _ (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _))
  · refine (pos3_row _ _ _ _ (fun _ => 0) (fun _ => 0) (fun _ => 0) (fun _ => 0) _ _ _ _ _ _ _ _ (fun _ => 0) _ p j).trans ?_
    refine congrArg (Ideal.fptosi 32) (congrFun ?_ j)
    exact (congrArg _ (mat_rows 1536 x0 _ p _)).trans (ind_congr _ _ (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _))

theorem out0_A_12_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 (ix2 0 0) = 0 + (held (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9)).sum4 (tile x0 0) (tile x0 1) (tile x0 2) (tile x0 3) * Ideal.ofBits FTy.f32 0x36200000#32 := by
  generalize h0 : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs0
  generalize h1 : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs1
  generalize h2 : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs2
  generalize h3 : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs3
  generalize h4 : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs4
  generalize h5 : sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs5
  generalize h6 : sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs6
  generalize h7 : sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs7
  generalize h8 : sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs8
  generalize h9 : sout0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs9
  generalize h10 : sout0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = xs10
  revert h0 h1 h2 h3 h4 h5 h6 h7 h8 h9 h10
  unfold out0_A_12 sout0_A_0 sout0_A_1 sout0_A_2 sout0_A_3 sout0_A_4 sout0_A_5 sout0_A_6 sout0_A_7 sout0_A_8 sout0_A_9 sout0_A_10
  simp only [View.read_writes_junk_eq_canon]
  unfold kernelRun0_A
  dsimp only
  sl_unfold_words
  simp only [readAt_fun, View.readCov_eq_canon']
  intro h0 h1 h2 h3 h4 h5 h6 h7 h8 h9 h10
  simp only [h0, h1, h2, h3, h4, h5, h6, h7, h8, h9, h10]
  clear h0 h1 h2 h3 h4 h5 h6 h7 h8 h9 h10
  rw [View.canon_cons_unit_zero (S := S1x1) (by funext a; fin_cases a <;> rfl)]
  skip
  refine (tot_eq _ _ _ _ (fun _ => 0) (fun _ => 0) (fun _ => 0) (fun _ => 0) _ _ _ _ _ _ _ _ _ _ _ _ _ _).trans ?_
  refine congrArg₂ (fun a b => a + b * Ideal.ofBits FTy.f32 0x36200000#32) ?_ ?_
  · refine (congrArg (fun f : Mat 1 1 => f 0 0) (mat_idx _ _)).trans ?_
    rw [View.canon_cons_unit_zero (S := S1x1) (by funext a; fin_cases a <;> rfl)]
    exact bits_0
  · exact (congr (congr (congrArg₂ (Par.sum4 _) (funext fun p => mat_rows 0 x0 _ p _) (funext fun p => mat_rows 512 x0 _ p _))
      (funext fun p => mat_rows 1024 x0 _ p _)) (funext fun p => mat_rows 1536 x0 _ p _)).trans
      (sum4_congr _ _ _ _ _ (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _) (stack_idx 2 _ _))

end Cert.KernelIdeal.Hand

end
end
-- ==== Proof.KOpenB.lean ====
module
public import proofs.«01_k».proof.Proof.KCanon

/-! What one grid point stores. -/

@[expose] public section

set_option maxRecDepth 16384

noncomputable section

namespace Cert.KernelIdeal.Hand

open Idealize.ShloMosaic Idealize.ShloMosaic.TcCoe Idealize.SL.Sem Cert.Rows Cert.KernelIdeal.Gen

theorem out0_B_10_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : ¬cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) (xo12 : Vec Ideal S1x1 .f32) (xs0 : Vec Ideal S768x512 .bf16) (xs1 : Vec Ideal S512x256 .bf16) (xs2 : Vec Ideal S256x128 .bf16) (xs3 : Vec Ideal S128x32 .bf16) (xs4 : Vec Ideal S32x128 .bf16) (xs5 : Vec Ideal S128x256 .bf16) (xs6 : Vec Ideal S256x512 .bf16) (xs7 : Vec Ideal S512x768 .bf16) (xs8 : Vec Ideal S3x32x256 .bf16) (xs9 : Vec Ideal S3x3x256x32 .bf16) (xs10 : Vec Ideal S3x1x256 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10 = fun y => (held xs0 xs1 xs2 xs3 xs4 xs5 xs6 xs7 xs8 xs9 xs10).out (mat x0 (y 0)) (y 1) := by
  unfold out0_B_10
  rw [View.read_writes_junk_eq_canon]
  unfold kernelRun0_B
  dsimp only
  sl_unfold_words
  simp only [readAt_fun]
  refine rows_canon (Par.out _) x0 _ _ _ _ ?_ ?_ ?_ ?_ <;> intro p j
  · refine (congrFun (rec0_row _ _ _ _ _ _ _ _ _ _ _ _ _ _ _ _ _ _ p) j).trans ?_
    refine congrFun (congrArg₂ Par.out ?_ (mat_rows 0 x0 _ p _)) j
    refine Par_congr (mat_idx _ _) (mat_idx _ _) (mat_idx _ _) (mat_idx _ _) (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _) (stack_idx 2 _ _)
  · refine (congrFun (rec1_row _ _ _ _ _ _ _ _ _ _ _ _ _ _ _ _ _ _ p) j).trans ?_
    refine congrFun (congrArg₂ Par.out ?_ (mat_rows 512 x0 _ p _)) j
    refine Par_congr (mat_idx _ _) (mat_idx _ _) (mat_idx _ _) (mat_idx _ _) (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _) (stack_idx 2 _ _)
  · refine (congrFun (rec2_row _ _ _ _ _ _ _ _ _ _ _ _ _ _ _ _ _ _ p) j).trans ?_
    refine congrFun (congrArg₂ Par.out ?_ (mat_rows 1024 x0 _ p _)) j
    refine Par_congr (mat_idx _ _) (mat_idx _ _) (mat_idx _ _) (mat_idx _ _) (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _) (stack_idx 2 _ _)
  · refine (congrFun (rec3_row _ _ _ _ _ _ _ _ _ _ _ _ _ _ _ _ _ _ p) j).trans ?_
    refine congrFun (congrArg₂ Par.out ?_ (mat_rows 1536 x0 _ p _)) j
    refine Par_congr (mat_idx _ _) (mat_idx _ _) (mat_idx _ _) (mat_idx _ _) (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _) (stack_idx 2 _ _)

theorem out0_B_11_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : ¬cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) (xo12 : Vec Ideal S1x1 .f32) (xs0 : Vec Ideal S768x512 .bf16) (xs1 : Vec Ideal S512x256 .bf16) (xs2 : Vec Ideal S256x128 .bf16) (xs3 : Vec Ideal S128x32 .bf16) (xs4 : Vec Ideal S32x128 .bf16) (xs5 : Vec Ideal S128x256 .bf16) (xs6 : Vec Ideal S256x512 .bf16) (xs7 : Vec Ideal S512x768 .bf16) (xs8 : Vec Ideal S3x32x256 .bf16) (xs9 : Vec Ideal S3x3x256x32 .bf16) (xs10 : Vec Ideal S3x1x256 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10 = fun y => Ideal.fptosi 32 ((held xs0 xs1 xs2 xs3 xs4 xs5 xs6 xs7 xs8 xs9 xs10).ind (mat x0 (y 0)) (y 1)) := by
  unfold out0_B_11
  rw [View.read_writes_junk_eq_canon]
  unfold kernelRun0_B
  dsimp only
  sl_unfold_words
  simp only [readAt_fun]
  refine cells_canon (fun x j => Ideal.fptosi 32 (Par.ind _ x j)) x0 _ _ _ _ ?_ ?_ ?_ ?_ <;> intro p j
  · refine (pos0_row _ _ _ _ (fun _ => 0) (fun _ => 0) (fun _ => 0) (fun _ => 0) _ _ _ _ _ _ _ _ (fun _ => 0) _ p j).trans ?_
    refine congrArg (Ideal.fptosi 32) (congrFun ?_ j)
    exact (congrArg _ (mat_rows 0 x0 _ p _)).trans (ind_congr _ _ (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _))
  · refine (pos1_row _ _ _ _ (fun _ => 0) (fun _ => 0) (fun _ => 0) (fun _ => 0) _ _ _ _ _ _ _ _ (fun _ => 0) _ p j).trans ?_
    refine congrArg (Ideal.fptosi 32) (congrFun ?_ j)
    exact (congrArg _ (mat_rows 512 x0 _ p _)).trans (ind_congr _ _ (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _))
  · refine (pos2_row _ _ _ _ (fun _ => 0) (fun _ => 0) (fun _ => 0) (fun _ => 0) _ _ _ _ _ _ _ _ (fun _ => 0) _ p j).trans ?_
    refine congrArg (Ideal.fptosi 32) (congrFun ?_ j)
    exact (congrArg _ (mat_rows 1024 x0 _ p _)).trans (ind_congr _ _ (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _))
  · refine (pos3_row _ _ _ _ (fun _ => 0) (fun _ => 0) (fun _ => 0) (fun _ => 0) _ _ _ _ _ _ _ _ (fun _ => 0) _ p j).trans ?_
    refine congrArg (Ideal.fptosi 32) (congrFun ?_ j)
    exact (congrArg _ (mat_rows 1536 x0 _ p _)).trans (ind_congr _ _ (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _))

theorem out0_B_12_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : ¬cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) (xo12 : Vec Ideal S1x1 .f32) (xs0 : Vec Ideal S768x512 .bf16) (xs1 : Vec Ideal S512x256 .bf16) (xs2 : Vec Ideal S256x128 .bf16) (xs3 : Vec Ideal S128x32 .bf16) (xs4 : Vec Ideal S32x128 .bf16) (xs5 : Vec Ideal S128x256 .bf16) (xs6 : Vec Ideal S256x512 .bf16) (xs7 : Vec Ideal S512x768 .bf16) (xs8 : Vec Ideal S3x32x256 .bf16) (xs9 : Vec Ideal S3x3x256x32 .bf16) (xs10 : Vec Ideal S3x1x256 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10 (ix2 0 0) = xo12 (ix2 0 0) + (held xs0 xs1 xs2 xs3 xs4 xs5 xs6 xs7 xs8 xs9 xs10).sum4 (tile x0 0) (tile x0 1) (tile x0 2) (tile x0 3) * Ideal.ofBits FTy.f32 0x36200000#32 := by
  unfold out0_B_12
  rw [View.read_writes_junk_eq_canon]
  unfold kernelRun0_B
  dsimp only
  sl_unfold_words
  rw [View.canon_cons_unit_zero (S := S1x1) (by funext a; fin_cases a <;> rfl)]
  simp only [readAt_fun]
  refine (tot_eq _ _ _ _ (fun _ => 0) (fun _ => 0) (fun _ => 0) (fun _ => 0) _ _ _ _ _ _ _ _ _ _ _ _ _ _).trans ?_
  refine congrArg₂ (fun a b => a + b * Ideal.ofBits FTy.f32 0x36200000#32) ?_ ?_
  · exact congrArg (fun f => f 0 0) (mat_idx xo12 _)
  · exact (congr (congr (congrArg₂ (Par.sum4 _) (funext fun p => mat_rows 0 x0 _ p _) (funext fun p => mat_rows 512 x0 _ p _))
      (funext fun p => mat_rows 1024 x0 _ p _)) (funext fun p => mat_rows 1536 x0 _ p _)).trans
      (sum4_congr _ _ _ _ _ (mat_idx _ _) (mat_idx _ _) (mat_idx _ _) (mat_idx _ _)
      (slab_idx 0 _ _) (slab_idx 1 _ _) (slab_idx 2 _ _) (congrFun (slab_idx 0 _ _) 0) (congrFun (slab_idx 1 _ _) 0) (congrFun (slab_idx 2 _ _) 0)
      (stack_idx 0 _ _) (stack_idx 1 _ _) (stack_idx 2 _ _))

end Cert.KernelIdeal.Hand

end
end
-- ==== Proof.KScr.lean ====
module
public import proofs.«01_k».proof.Proof.KCanon

/-! The tables the first grid point prepares. -/

@[expose] public section

set_option maxRecDepth 16384

noncomputable section

namespace Cert.KernelIdeal.Hand

open Idealize.ShloMosaic Idealize.ShloMosaic.TcCoe Idealize.SL.Sem Cert.Rows Cert.KernelIdeal.Gen

theorem wcast0 (v : Vec Ideal S768x512 .f32) : mat (k0_pay2 (F := Ideal) v) = mat v := by
  funext p j; simp only [k0_pay2, mat, pointwise]
theorem wcast1 (v : Vec Ideal S512x256 .f32) : mat (k0_pay3 (F := Ideal) v) = mat v := by
  funext p j; simp only [k0_pay3, mat, pointwise]
theorem wcast2 (v : Vec Ideal S256x128 .f32) : mat (k0_pay4 (F := Ideal) v) = mat v := by
  funext p j; simp only [k0_pay4, mat, pointwise]
theorem wcast3 (v : Vec Ideal S128x32 .f32) : mat (k0_pay5 (F := Ideal) v) = mat v := by
  funext p j; simp only [k0_pay5, mat, pointwise]
theorem wcast4 (v : Vec Ideal S32x128 .f32) : mat (k0_pay6 (F := Ideal) v) = mat v := by
  funext p j; simp only [k0_pay6, mat, pointwise]
theorem wcast5 (v : Vec Ideal S128x256 .f32) : mat (k0_pay7 (F := Ideal) v) = mat v := by
  funext p j; simp only [k0_pay7, mat, pointwise]
theorem wcast6 (v : Vec Ideal S256x512 .f32) : mat (k0_pay8 (F := Ideal) v) = mat v := by
  funext p j; simp only [k0_pay8, mat, pointwise]
theorem wcast7 (v : Vec Ideal S512x768 .f32) : mat (k0_pay9 (F := Ideal) v) = mat v := by
  funext p j; simp only [k0_pay9, mat, pointwise]
theorem turn0 (v : Vec Ideal S1x256x32 .f32) (j : S1x32x256.Idx) :
    k0_pay12 (F := Ideal) v j = Ideal.ofBits FTy.f32 0xC0000000#32 * v (ix3 0 (j 2) (j 1)) := by
  simp only [k0_pay12, k0_pay10, k0_pay11, pointwise]
theorem norm0 (v : Vec Ideal S1x256x32 .f32) (j : S1x1x256.Idx) :
    k0_pay13 (F := Ideal) v j = ∑ i : Fin 32, v (ix3 0 (j 2) i) * v (ix3 0 (j 2) i) := by
  simp only [k0_pay13, k0_pay10, k0_pay11, pointwise, Ideal.reduceAdd_def, bits_0, zero_add]
theorem turn1 (v : Vec Ideal S1x256x32 .f32) (j : S1x32x256.Idx) :
    k0_pay23 (F := Ideal) v j = Ideal.ofBits FTy.f32 0xC0000000#32 * v (ix3 0 (j 2) (j 1)) := by
  simp only [k0_pay23, k0_pay21, k0_pay22, pointwise]
theorem norm1 (v : Vec Ideal S1x256x32 .f32) (j : S1x1x256.Idx) :
    k0_pay24 (F := Ideal) v j = ∑ i : Fin 32, v (ix3 0 (j 2) i) * v (ix3 0 (j 2) i) := by
  simp only [k0_pay24, k0_pay21, k0_pay22, pointwise, Ideal.reduceAdd_def, bits_0, zero_add]
theorem turn2 (v : Vec Ideal S1x256x32 .f32) (j : S1x32x256.Idx) :
    k0_pay34 (F := Ideal) v j = Ideal.ofBits FTy.f32 0xC0000000#32 * v (ix3 0 (j 2) (j 1)) := by
  simp only [k0_pay34, k0_pay32, k0_pay33, pointwise]
theorem norm2 (v : Vec Ideal S1x256x32 .f32) (j : S1x1x256.Idx) :
    k0_pay35 (F := Ideal) v j = ∑ i : Fin 32, v (ix3 0 (j 2) i) * v (ix3 0 (j 2) i) := by
  simp only [k0_pay35, k0_pay32, k0_pay33, pointwise, Ideal.reduceAdd_def, bits_0, zero_add]
theorem part00 (v : Vec Ideal S1x256x32 .f32) (j : S1x1x256x32.Idx) :
    k0_pay18 (F := Ideal) (k0_pay14 (F := Ideal) v) j = v (ix3 0 (j 2) (j 3)) := by
  simp only [k0_pay10, k0_pay14, k0_pay15, k0_pay16, k0_pay17, k0_pay18, k0_pay19, k0_pay20, pointwise]
theorem part01 (v : Vec Ideal S1x256x32 .f32) (j : S1x1x256x32.Idx) :
    k0_pay19 (F := Ideal) (k0_pay16 (F := Ideal) v) j = v (ix3 0 (j 2) (j 3)) - v (ix3 0 (j 2) (j 3)) := by
  simp only [k0_pay10, k0_pay14, k0_pay15, k0_pay16, k0_pay17, k0_pay18, k0_pay19, k0_pay20, pointwise]
theorem part02 (v : Vec Ideal S1x256x32 .f32) (j : S1x1x256x32.Idx) :
    k0_pay20 (F := Ideal) (k0_pay17 (F := Ideal) v) j = (v (ix3 0 (j 2) (j 3)) - v (ix3 0 (j 2) (j 3))) - (v (ix3 0 (j 2) (j 3)) - v (ix3 0 (j 2) (j 3))) := by
  simp only [k0_pay10, k0_pay14, k0_pay15, k0_pay16, k0_pay17, k0_pay18, k0_pay19, k0_pay20, pointwise]
theorem part10 (v : Vec Ideal S1x256x32 .f32) (j : S1x1x256x32.Idx) :
    k0_pay29 (F := Ideal) (k0_pay25 (F := Ideal) v) j = v (ix3 0 (j 2) (j 3)) := by
  simp only [k0_pay21, k0_pay25, k0_pay26, k0_pay27, k0_pay28, k0_pay29, k0_pay30, k0_pay31, pointwise]
theorem part11 (v : Vec Ideal S1x256x32 .f32) (j : S1x1x256x32.Idx) :
    k0_pay30 (F := Ideal) (k0_pay27 (F := Ideal) v) j = v (ix3 0 (j 2) (j 3)) - v (ix3 0 (j 2) (j 3)) := by
  simp only [k0_pay21, k0_pay25, k0_pay26, k0_pay27, k0_pay28, k0_pay29, k0_pay30, k0_pay31, pointwise]
theorem part12 (v : Vec Ideal S1x256x32 .f32) (j : S1x1x256x32.Idx) :
    k0_pay31 (F := Ideal) (k0_pay28 (F := Ideal) v) j = (v (ix3 0 (j 2) (j 3)) - v (ix3 0 (j 2) (j 3))) - (v (ix3 0 (j 2) (j 3)) - v (ix3 0 (j 2) (j 3))) := by
  simp only [k0_pay21, k0_pay25, k0_pay26, k0_pay27, k0_pay28, k0_pay29, k0_pay30, k0_pay31, pointwise]
theorem part20 (v : Vec Ideal S1x256x32 .f32) (j : S1x1x256x32.Idx) :
    k0_pay40 (F := Ideal) v j = v (ix3 0 (j 2) (j 3)) := by
  simp only [k0_pay32, k0_pay36, k0_pay37, k0_pay38, k0_pay39, k0_pay40, k0_pay41, k0_pay42, pointwise]
theorem part21 (v : Vec Ideal S1x256x32 .f32) (j : S1x1x256x32.Idx) :
    k0_pay41 (F := Ideal) (k0_pay38 (F := Ideal) v) j = v (ix3 0 (j 2) (j 3)) - v (ix3 0 (j 2) (j 3)) := by
  simp only [k0_pay32, k0_pay36, k0_pay37, k0_pay38, k0_pay39, k0_pay40, k0_pay41, k0_pay42, pointwise]
theorem part22 (v : Vec Ideal S1x256x32 .f32) (j : S1x1x256x32.Idx) :
    k0_pay42 (F := Ideal) (k0_pay39 (F := Ideal) v) j = (v (ix3 0 (j 2) (j 3)) - v (ix3 0 (j 2) (j 3))) - (v (ix3 0 (j 2) (j 3)) - v (ix3 0 (j 2) (j 3))) := by
  simp only [k0_pay32, k0_pay36, k0_pay37, k0_pay38, k0_pay39, k0_pay40, k0_pay41, k0_pay42, pointwise]
theorem sout0_A_0_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    mat (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) = mat x1 := by
  unfold sout0_A_0
  rw [View.read_writes_junk_eq_canon]
  unfold kernelRun0_A
  dsimp only
  sl_unfold_words
  rw [View.canon_cons_unit_zero (S := S768x512) (by funext a; fin_cases a <;> rfl)]
  simp only [readAt_fun]
  exact (wcast0 _).trans (mat_idx _ _)
theorem sout0_A_1_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    mat (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) = mat x2 := by
  unfold sout0_A_1
  rw [View.read_writes_junk_eq_canon]
  unfold kernelRun0_A
  dsimp only
  sl_unfold_words
  rw [View.canon_cons_unit_zero (S := S512x256) (by funext a; fin_cases a <;> rfl)]
  simp only [readAt_fun]
  exact (wcast1 _).trans (mat_idx _ _)
theorem sout0_A_2_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    mat (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) = mat x3 := by
  unfold sout0_A_2
  rw [View.read_writes_junk_eq_canon]
  unfold kernelRun0_A
  dsimp only
  sl_unfold_words
  rw [View.canon_cons_unit_zero (S := S256x128) (by funext a; fin_cases a <;> rfl)]
  simp only [readAt_fun]
  exact (wcast2 _).trans (mat_idx _ _)
theorem sout0_A_3_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    mat (sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) = mat x4 := by
  unfold sout0_A_3
  rw [View.read_writes_junk_eq_canon]
  unfold kernelRun0_A
  dsimp only
  sl_unfold_words
  rw [View.canon_cons_unit_zero (S := S128x32) (by funext a; fin_cases a <;> rfl)]
  simp only [readAt_fun]
  exact (wcast3 _).trans (mat_idx _ _)
theorem sout0_A_4_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    mat (sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) = mat x5 := by
  unfold sout0_A_4
  rw [View.read_writes_junk_eq_canon]
  unfold kernelRun0_A
  dsimp only
  sl_unfold_words
  rw [View.canon_cons_unit_zero (S := S32x128) (by funext a; fin_cases a <;> rfl)]
  simp only [readAt_fun]
  exact (wcast4 _).trans (mat_idx _ _)
theorem sout0_A_5_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    mat (sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) = mat x6 := by
  unfold sout0_A_5
  rw [View.read_writes_junk_eq_canon]
  unfold kernelRun0_A
  dsimp only
  sl_unfold_words
  rw [View.canon_cons_unit_zero (S := S128x256) (by funext a; fin_cases a <;> rfl)]
  simp only [readAt_fun]
  exact (wcast5 _).trans (mat_idx _ _)
theorem sout0_A_6_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    mat (sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) = mat x7 := by
  unfold sout0_A_6
  rw [View.read_writes_junk_eq_canon]
  unfold kernelRun0_A
  dsimp only
  sl_unfold_words
  rw [View.canon_cons_unit_zero (S := S256x512) (by funext a; fin_cases a <;> rfl)]
  simp only [readAt_fun]
  exact (wcast6 _).trans (mat_idx _ _)
theorem sout0_A_7_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    mat (sout0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) = mat x8 := by
  unfold sout0_A_7
  rw [View.read_writes_junk_eq_canon]
  unfold kernelRun0_A
  dsimp only
  sl_unfold_words
  rw [View.canon_cons_unit_zero (S := S512x768) (by funext a; fin_cases a <;> rfl)]
  simp only [readAt_fun]
  exact (wcast7 _).trans (mat_idx _ _)
/-- The place of a rank-3 array's entry. -/
theorem at3 {n m k : Nat} (X : (⟨3, ![n, m, k]⟩ : Shape).Idx → EReal) {a b : (⟨3, ![n, m, k]⟩ : Shape).Idx}
    (h0 : (a 0).val = (b 0).val) (h1 : (a 1).val = (b 1).val) (h2 : (a 2).val = (b 2).val) : X a = X b := by
  refine congrArg X (funext fun i => ?_)
  fin_cases i
  · exact Fin.ext h0
  · exact Fin.ext h1
  · exact Fin.ext h2
theorem sout0_A_8_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    sout0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = fun y => Ideal.ofBits FTy.f32 0xC0000000#32 * x9 (ix3 (y 0) (y 2) (y 1)) := by
  unfold sout0_A_8
  rw [View.read_writes_junk_eq_canon]
  unfold kernelRun0_A
  dsimp only
  sl_unfold_words
  simp only [readAt_fun]
  funext y
  refine View.canon_apply_of_pieces (Val := Elt Ideal) (S := S3x32x256) (e := .bf16) (fun y => Ideal.ofBits FTy.f32 0xC0000000#32 * x9 (ix3 (y 0) (y 2) (y 1))) _ ?_ y ?_
  · intro q hq x
    simp only [List.mem_cons, List.not_mem_nil, or_false] at hq
    rcases hq with rfl | rfl | rfl
    · refine (turn2 _ x).trans ?_
      refine congrArg (fun a => Ideal.ofBits FTy.f32 0xC0000000#32 * a) (at3 x9 ?_ ?_ ?_)
      · show 2 + 1 * 0 = 2 + 1 * (x 0).val; have := (x 0).isLt; change (x 0).val < 1 at this; omega
      · show 0 + 1 * (x 2).val = 0 + 1 * (x 2).val; rfl
      · show 0 + 1 * (x 1).val = 0 + 1 * (x 1).val; rfl
    · refine (turn1 _ x).trans ?_
      refine congrArg (fun a => Ideal.ofBits FTy.f32 0xC0000000#32 * a) (at3 x9 ?_ ?_ ?_)
      · show 1 + 1 * 0 = 1 + 1 * (x 0).val; have := (x 0).isLt; change (x 0).val < 1 at this; omega
      · show 0 + 1 * (x 2).val = 0 + 1 * (x 2).val; rfl
      · show 0 + 1 * (x 1).val = 0 + 1 * (x 1).val; rfl
    · refine (turn0 _ x).trans ?_
      refine congrArg (fun a => Ideal.ofBits FTy.f32 0xC0000000#32 * a) (at3 x9 ?_ ?_ ?_)
      · show 0 + 1 * 0 = 0 + 1 * (x 0).val; have := (x 0).isLt; change (x 0).val < 1 at this; omega
      · show 0 + 1 * (x 2).val = 0 + 1 * (x 2).val; rfl
      · show 0 + 1 * (x 1).val = 0 + 1 * (x 1).val; rfl
  · have h0 : (y 0).val < 3 := (y 0).isLt
    have h1 : (y 1).val < 32 := (y 1).isLt
    have h2 : (y 2).val < 256 := (y 2).isLt
    rcases (by omega : (y 0).val = 2 ∨ (y 0).val = 1 ∨ (y 0).val = 0) with h | h | h
    · refine ⟨_, List.mem_cons_self, (Rect.mem_set_unit (inb := inb_S3x32x256_S1x32x256_2_0_0)).mpr fun a => ?_⟩
      fin_cases a
      · show 2 ≤ (y 0).val ∧ (y 0).val < 2 + 1; omega
      · show 0 ≤ (y 1).val ∧ (y 1).val < 0 + 32; omega
      · show 0 ≤ (y 2).val ∧ (y 2).val < 0 + 256; omega
    · refine ⟨_, List.mem_cons_of_mem _ (List.mem_cons_self), (Rect.mem_set_unit (inb := inb_S3x32x256_S1x32x256_1_0_0)).mpr fun a => ?_⟩
      fin_cases a
      · show 1 ≤ (y 0).val ∧ (y 0).val < 1 + 1; omega
      · show 0 ≤ (y 1).val ∧ (y 1).val < 0 + 32; omega
      · show 0 ≤ (y 2).val ∧ (y 2).val < 0 + 256; omega
    · refine ⟨_, List.mem_cons_of_mem _ (List.mem_cons_of_mem _ (List.mem_cons_self)), (Rect.mem_set_unit (inb := inb_S3x32x256_S1x32x256_0_0_0)).mpr fun a => ?_⟩
      fin_cases a
      · show 0 ≤ (y 0).val ∧ (y 0).val < 0 + 1; omega
      · show 0 ≤ (y 1).val ∧ (y 1).val < 0 + 32; omega
      · show 0 ≤ (y 2).val ∧ (y 2).val < 0 + 256; omega
theorem sout0_A_10_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    sout0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = fun y => ∑ i : Fin 32, x9 (ix3 (y 0) (y 2) i) * x9 (ix3 (y 0) (y 2) i) := by
  unfold sout0_A_10
  rw [View.read_writes_junk_eq_canon]
  unfold kernelRun0_A
  dsimp only
  sl_unfold_words
  simp only [readAt_fun]
  funext y
  refine View.canon_apply_of_pieces (Val := Elt Ideal) (S := S3x1x256) (e := .f32) (fun y => ∑ i : Fin 32, x9 (ix3 (y 0) (y 2) i) * x9 (ix3 (y 0) (y 2) i)) _ ?_ y ?_
  · intro q hq x
    simp only [List.mem_cons, List.not_mem_nil, or_false] at hq
    rcases hq with rfl | rfl | rfl
    · refine (norm2 _ x).trans ?_
      refine Finset.sum_congr rfl fun i _ => congrArg (fun a => a * a) (at3 x9 ?_ ?_ ?_)
      · show 2 + 1 * 0 = 2 + 1 * (x 0).val; have := (x 0).isLt; change (x 0).val < 1 at this; omega
      · show 0 + 1 * (x 2).val = 0 + 1 * (x 2).val; rfl
      · show 0 + 1 * i.val = i.val; omega
    · refine (norm1 _ x).trans ?_
      refine Finset.sum_congr rfl fun i _ => congrArg (fun a => a * a) (at3 x9 ?_ ?_ ?_)
      · show 1 + 1 * 0 = 1 + 1 * (x 0).val; have := (x 0).isLt; change (x 0).val < 1 at this; omega
      · show 0 + 1 * (x 2).val = 0 + 1 * (x 2).val; rfl
      · show 0 + 1 * i.val = i.val; omega
    · refine (norm0 _ x).trans ?_
      refine Finset.sum_congr rfl fun i _ => congrArg (fun a => a * a) (at3 x9 ?_ ?_ ?_)
      · show 0 + 1 * 0 = 0 + 1 * (x 0).val; have := (x 0).isLt; change (x 0).val < 1 at this; omega
      · show 0 + 1 * (x 2).val = 0 + 1 * (x 2).val; rfl
      · show 0 + 1 * i.val = i.val; omega
  · have h0 : (y 0).val < 3 := (y 0).isLt
    have h1 : (y 1).val < 1 := (y 1).isLt
    have h2 : (y 2).val < 256 := (y 2).isLt
    rcases (by omega : (y 0).val = 2 ∨ (y 0).val = 1 ∨ (y 0).val = 0) with h | h | h
    · refine ⟨_, List.mem_cons_self, (Rect.mem_set_unit (inb := inb_S3x1x256_S1x1x256_2_0_0)).mpr fun a => ?_⟩
      fin_cases a
      · show 2 ≤ (y 0).val ∧ (y 0).val < 2 + 1; omega
      · show 0 ≤ (y 1).val ∧ (y 1).val < 0 + 1; omega
      · show 0 ≤ (y 2).val ∧ (y 2).val < 0 + 256; omega
    · refine ⟨_, List.mem_cons_of_mem _ (List.mem_cons_self), (Rect.mem_set_unit (inb := inb_S3x1x256_S1x1x256_1_0_0)).mpr fun a => ?_⟩
      fin_cases a
      · show 1 ≤ (y 0).val ∧ (y 0).val < 1 + 1; omega
      · show 0 ≤ (y 1).val ∧ (y 1).val < 0 + 1; omega
      · show 0 ≤ (y 2).val ∧ (y 2).val < 0 + 256; omega
    · refine ⟨_, List.mem_cons_of_mem _ (List.mem_cons_of_mem _ (List.mem_cons_self)), (Rect.mem_set_unit (inb := inb_S3x1x256_S1x1x256_0_0_0)).mpr fun a => ?_⟩
      fin_cases a
      · show 0 ≤ (y 0).val ∧ (y 0).val < 0 + 1; omega
      · show 0 ≤ (y 1).val ∧ (y 1).val < 0 + 1; omega
      · show 0 ≤ (y 2).val ∧ (y 2).val < 0 + 256; omega
/-- A number and what two roundings of it to itself leave. -/
def layer (x : EReal) : Fin 3 → EReal := ![x, x - x, (x - x) - (x - x)]
theorem sout0_A_9_eq (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    sout0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 = fun y => layer (x9 (ix3 (y 0) (y 2) (y 3))) (y 1) := by
  unfold sout0_A_9
  rw [View.read_writes_junk_eq_canon]
  unfold kernelRun0_A
  dsimp only
  sl_unfold_words
  simp only [readAt_fun]
  funext y
  refine View.canon_apply_of_pieces (Val := Elt Ideal) (S := S3x3x256x32) (e := .bf16) (fun y => layer (x9 (ix3 (y 0) (y 2) (y 3))) (y 1)) _ ?_ y ?_
  · intro q hq x
    simp only [List.mem_cons, List.not_mem_nil, or_false] at hq
    rcases hq with rfl | rfl | rfl | rfl | rfl | rfl | rfl | rfl | rfl
    · refine (part22 _ x).trans ?_
      have e0 : (x 0).val < 1 := (x 0).isLt
      have e1 : (x 1).val < 1 := (x 1).isLt
      refine Eq.trans (b := layer (x9 (ix3 2 (x 2) (x 3))) 2) ?_ (congrArg₂ layer (at3 x9 ?_ ?_ ?_) (Fin.ext ?_))
      · refine congrArg (fun a => layer a 2) (at3 x9 ?_ ?_ ?_)
        · show 2 + 1 * 0 = 2; rfl
        · show 0 + 1 * (x 2).val = (x 2).val; omega
        · show 0 + 1 * (x 3).val = (x 3).val; omega
      · show 2 = 2 + 1 * (x 0).val; omega
      · show (x 2).val = 0 + 1 * (x 2).val; omega
      · show (x 3).val = 0 + 1 * (x 3).val; omega
      · show 2 = 2 + 1 * (x 1).val; omega
    · refine (part21 _ x).trans ?_
      have e0 : (x 0).val < 1 := (x 0).isLt
      have e1 : (x 1).val < 1 := (x 1).isLt
      refine Eq.trans (b := layer (x9 (ix3 2 (x 2) (x 3))) 1) ?_ (congrArg₂ layer (at3 x9 ?_ ?_ ?_) (Fin.ext ?_))
      · refine congrArg (fun a => layer a 1) (at3 x9 ?_ ?_ ?_)
        · show 2 + 1 * 0 = 2; rfl
        · show 0 + 1 * (x 2).val = (x 2).val; omega
        · show 0 + 1 * (x 3).val = (x 3).val; omega
      · show 2 = 2 + 1 * (x 0).val; omega
      · show (x 2).val = 0 + 1 * (x 2).val; omega
      · show (x 3).val = 0 + 1 * (x 3).val; omega
      · show 1 = 1 + 1 * (x 1).val; omega
    · refine (part20 _ x).trans ?_
      have e0 : (x 0).val < 1 := (x 0).isLt
      have e1 : (x 1).val < 1 := (x 1).isLt
      refine Eq.trans (b := layer (x9 (ix3 2 (x 2) (x 3))) 0) ?_ (congrArg₂ layer (at3 x9 ?_ ?_ ?_) (Fin.ext ?_))
      · refine congrArg (fun a => layer a 0) (at3 x9 ?_ ?_ ?_)
        · show 2 + 1 * 0 = 2; rfl
        · show 0 + 1 * (x 2).val = (x 2).val; omega
        · show 0 + 1 * (x 3).val = (x 3).val; omega
      · show 2 = 2 + 1 * (x 0).val; omega
      · show (x 2).val = 0 + 1 * (x 2).val; omega
      · show (x 3).val = 0 + 1 * (x 3).val; omega
      · show 0 = 0 + 1 * (x 1).val; omega
    · refine (part12 _ x).trans ?_
      have e0 : (x 0).val < 1 := (x 0).isLt
      have e1 : (x 1).val < 1 := (x 1).isLt
      refine Eq.trans (b := layer (x9 (ix3 1 (x 2) (x 3))) 2) ?_ (congrArg₂ layer (at3 x9 ?_ ?_ ?_) (Fin.ext ?_))
      · refine congrArg (fun a => layer a 2) (at3 x9 ?_ ?_ ?_)
        · show 1 + 1 * 0 = 1; rfl
        · show 0 + 1 * (x 2).val = (x 2).val; omega
        · show 0 + 1 * (x 3).val = (x 3).val; omega
      · show 1 = 1 + 1 * (x 0).val; omega
      · show (x 2).val = 0 + 1 * (x 2).val; omega
      · show (x 3).val = 0 + 1 * (x 3).val; omega
      · show 2 = 2 + 1 * (x 1).val; omega
    · refine (part11 _ x).trans ?_
      have e0 : (x 0).val < 1 := (x 0).isLt
      have e1 : (x 1).val < 1 := (x 1).isLt
      refine Eq.trans (b := layer (x9 (ix3 1 (x 2) (x 3))) 1) ?_ (congrArg₂ layer (at3 x9 ?_ ?_ ?_) (Fin.ext ?_))
      · refine congrArg (fun a => layer a 1) (at3 x9 ?_ ?_ ?_)
        · show 1 + 1 * 0 = 1; rfl
        · show 0 + 1 * (x 2).val = (x 2).val; omega
        · show 0 + 1 * (x 3).val = (x 3).val; omega
      · show 1 = 1 + 1 * (x 0).val; omega
      · show (x 2).val = 0 + 1 * (x 2).val; omega
      · show (x 3).val = 0 + 1 * (x 3).val; omega
      · show 1 = 1 + 1 * (x 1).val; omega
    · refine (part10 _ x).trans ?_
      have e0 : (x 0).val < 1 := (x 0).isLt
      have e1 : (x 1).val < 1 := (x 1).isLt
      refine Eq.trans (b := layer (x9 (ix3 1 (x 2) (x 3))) 0) ?_ (congrArg₂ layer (at3 x9 ?_ ?_ ?_) (Fin.ext ?_))
      · refine congrArg (fun a => layer a 0) (at3 x9 ?_ ?_ ?_)
        · show 1 + 1 * 0 = 1; rfl
        · show 0 + 1 * (x 2).val = (x 2).val; omega
        · show 0 + 1 * (x 3).val = (x 3).val; omega
      · show 1 = 1 + 1 * (x 0).val; omega
      · show (x 2).val = 0 + 1 * (x 2).val; omega
      · show (x 3).val = 0 + 1 * (x 3).val; omega
      · show 0 = 0 + 1 * (x 1).val; omega
    · refine (part02 _ x).trans ?_
      have e0 : (x 0).val < 1 := (x 0).isLt
      have e1 : (x 1).val < 1 := (x 1).isLt
      refine Eq.trans (b := layer (x9 (ix3 0 (x 2) (x 3))) 2) ?_ (congrArg₂ layer (at3 x9 ?_ ?_ ?_) (Fin.ext ?_))
      · refine congrArg (fun a => layer a 2) (at3 x9 ?_ ?_ ?_)
        · show 0 + 1 * 0 = 0; rfl
        · show 0 + 1 * (x 2).val = (x 2).val; omega
        · show 0 + 1 * (x 3).val = (x 3).val; omega
      · show 0 = 0 + 1 * (x 0).val; omega
      · show (x 2).val = 0 + 1 * (x 2).val; omega
      · show (x 3).val = 0 + 1 * (x 3).val; omega
      · show 2 = 2 + 1 * (x 1).val; omega
    · refine (part01 _ x).trans ?_
      have e0 : (x 0).val < 1 := (x 0).isLt
      have e1 : (x 1).val < 1 := (x 1).isLt
      refine Eq.trans (b := layer (x9 (ix3 0 (x 2) (x 3))) 1) ?_ (congrArg₂ layer (at3 x9 ?_ ?_ ?_) (Fin.ext ?_))
      · refine congrArg (fun a => layer a 1) (at3 x9 ?_ ?_ ?_)
        · show 0 + 1 * 0 = 0; rfl
        · show 0 + 1 * (x 2).val = (x 2).val; omega
        · show 0 + 1 * (x 3).val = (x 3).val; omega
      · show 0 = 0 + 1 * (x 0).val; omega
      · show (x 2).val = 0 + 1 * (x 2).val; omega
      · show (x 3).val = 0 + 1 * (x 3).val; omega
      · show 1 = 1 + 1 * (x 1).val; omega
    · refine (part00 _ x).trans ?_
      have e0 : (x 0).val < 1 := (x 0).isLt
      have e1 : (x 1).val < 1 := (x 1).isLt
      refine Eq.trans (b := layer (x9 (ix3 0 (x 2) (x 3))) 0) ?_ (congrArg₂ layer (at3 x9 ?_ ?_ ?_) (Fin.ext ?_))
      · refine congrArg (fun a => layer a 0) (at3 x9 ?_ ?_ ?_)
        · show 0 + 1 * 0 = 0; rfl
        · show 0 + 1 * (x 2).val = (x 2).val; omega
        · show 0 + 1 * (x 3).val = (x 3).val; omega
      · show 0 = 0 + 1 * (x 0).val; omega
      · show (x 2).val = 0 + 1 * (x 2).val; omega
      · show (x 3).val = 0 + 1 * (x 3).val; omega
      · show 0 = 0 + 1 * (x 1).val; omega
  · have h0 : (y 0).val < 3 := (y 0).isLt
    have h1 : (y 1).val < 3 := (y 1).isLt
    have h2 : (y 2).val < 256 := (y 2).isLt
    have h3 : (y 3).val < 32 := (y 3).isLt
    rcases (by omega : (y 0).val = 2 ∨ (y 0).val = 1 ∨ (y 0).val = 0) with h | h | h <;>
    rcases (by omega : (y 1).val = 2 ∨ (y 1).val = 1 ∨ (y 1).val = 0) with g | g | g
    · refine ⟨_, List.mem_cons_self, (Rect.mem_set_unit (inb := inb_S3x3x256x32_S1x1x256x32_2_2_0_0)).mpr fun a => ?_⟩
      fin_cases a
      · show 2 ≤ (y 0).val ∧ (y 0).val < 2 + 1; omega
      · show 2 ≤ (y 1).val ∧ (y 1).val < 2 + 1; omega
      · show 0 ≤ (y 2).val ∧ (y 2).val < 0 + 256; omega
      · show 0 ≤ (y 3).val ∧ (y 3).val < 0 + 32; omega
    · refine ⟨_, List.mem_cons_of_mem _ (List.mem_cons_self), (Rect.mem_set_unit (inb := inb_S3x3x256x32_S1x1x256x32_2_1_0_0)).mpr fun a => ?_⟩
      fin_cases a
      · show 2 ≤ (y 0).val ∧ (y 0).val < 2 + 1; omega
      · show 1 ≤ (y 1).val ∧ (y 1).val < 1 + 1; omega
      · show 0 ≤ (y 2).val ∧ (y 2).val < 0 + 256; omega
      · show 0 ≤ (y 3).val ∧ (y 3).val < 0 + 32; omega
    · refine ⟨_, List.mem_cons_of_mem _ (List.mem_cons_of_mem _ (List.mem_cons_self)), (Rect.mem_set_unit (inb := inb_S3x3x256x32_S1x1x256x32_2_0_0_0)).mpr fun a => ?_⟩
      fin_cases a
      · show 2 ≤ (y 0).val ∧ (y 0).val < 2 + 1; omega
      · show 0 ≤ (y 1).val ∧ (y 1).val < 0 + 1; omega
      · show 0 ≤ (y 2).val ∧ (y 2).val < 0 + 256; omega
      · show 0 ≤ (y 3).val ∧ (y 3).val < 0 + 32; omega
    · refine ⟨_, List.mem_cons_of_mem _ (List.mem_cons_of_mem _ (List.mem_cons_of_mem _ (List.mem_cons_self))), (Rect.mem_set_unit (inb := inb_S3x3x256x32_S1x1x256x32_1_2_0_0)).mpr fun a => ?_⟩
      fin_cases a
      · show 1 ≤ (y 0).val ∧ (y 0).val < 1 + 1; omega
      · show 2 ≤ (y 1).val ∧ (y 1).val < 2 + 1; omega
      · show 0 ≤ (y 2).val ∧ (y 2).val < 0 + 256; omega
      · show 0 ≤ (y 3).val ∧ (y 3).val < 0 + 32; omega
    · refine ⟨_, List.mem_cons_of_mem _ (List.mem_cons_of_mem _ (List.mem_cons_of_mem _ (List.mem_cons_of_mem _ (List.mem_cons_self)))), (Rect.mem_set_unit (inb := inb_S3x3x256x32_S1x1x256x32_1_1_0_0)).mpr fun a => ?_⟩
      fin_cases a
      · show 1 ≤ (y 0).val ∧ (y 0).val < 1 + 1; omega
      · show 1 ≤ (y 1).val ∧ (y 1).val < 1 + 1; omega
      · show 0 ≤ (y 2).val ∧ (y 2).val < 0 + 256; omega
      · show 0 ≤ (y 3).val ∧ (y 3).val < 0 + 32; omega
    · refine ⟨_, List.mem_cons_of_mem _ (List.mem_cons_of_mem _ (List.mem_cons_of_mem _ (List.mem_cons_of_mem _ (List.mem_cons_of_mem _ (List.mem_cons_self))))), (Rect.mem_set_unit (inb := inb_S3x3x256x32_S1x1x256x32_1_0_0_0)).mpr fun a => ?_⟩
      fin_cases a
      · show 1 ≤ (y 0).val ∧ (y 0).val < 1 + 1; omega
      · show 0 ≤ (y 1).val ∧ (y 1).val < 0 + 1; omega
      · show 0 ≤ (y 2).val ∧ (y 2).val < 0 + 256; omega
      · show 0 ≤ (y 3).val ∧ (y 3).val < 0 + 32; omega
    · refine ⟨_, List.mem_cons_of_mem _ (List.mem_cons_of_mem _ (List.mem_cons_of_mem _ (List.mem_cons_of_mem _ (List.mem_cons_of_mem _ (List.mem_cons_of_mem _ (List.mem_cons_self)))))), (Rect.mem_set_unit (inb := inb_S3x3x256x32_S1x1x256x32_0_2_0_0)).mpr fun a => ?_⟩
      fin_cases a
      · show 0 ≤ (y 0).val ∧ (y 0).val < 0 + 1; omega
      · show 2 ≤ (y 1).val ∧ (y 1).val < 2 + 1; omega
      · show 0 ≤ (y 2).val ∧ (y 2).val < 0 + 256; omega
      · show 0 ≤ (y 3).val ∧ (y 3).val < 0 + 32; omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (Rect.mem_set_unit (inb := inb_S3x3x256x32_S1x1x256x32_0_1_0_0)).mpr fun a => ?_⟩
      fin_cases a
      · show 0 ≤ (y 0).val ∧ (y 0).val < 0 + 1; omega
      · show 1 ≤ (y 1).val ∧ (y 1).val < 1 + 1; omega
      · show 0 ≤ (y 2).val ∧ (y 2).val < 0 + 256; omega
      · show 0 ≤ (y 3).val ∧ (y 3).val < 0 + 32; omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (Rect.mem_set_unit (inb := inb_S3x3x256x32_S1x1x256x32_0_0_0_0)).mpr fun a => ?_⟩
      fin_cases a
      · show 0 ≤ (y 0).val ∧ (y 0).val < 0 + 1; omega
      · show 0 ≤ (y 1).val ∧ (y 1).val < 0 + 1; omega
      · show 0 ≤ (y 2).val ∧ (y 2).val < 0 + 256; omega
      · show 0 ≤ (y 3).val ∧ (y 3).val < 0 + 32; omega

end Cert.KernelIdeal.Hand

end
end
-- ==== Proof.KGrid.lean ====
module
public import proofs.«01_k».proof.Proof.KOpenA
public import proofs.«01_k».proof.Proof.KOpenB
public import proofs.«01_k».proof.Proof.KScr

/-! What the grid leaves: every point works with the tables the first one prepared. -/

@[expose] public section

set_option maxRecDepth 16384

noncomputable section

namespace Cert.KernelIdeal.Hand

open Idealize.ShloMosaic Idealize.ShloMosaic.TcCoe Idealize.SL.Sem Cert.Rows Cert.KernelIdeal Cert.KernelIdeal.Gen Cert.KernelIdeal.Value

/-- The tables prepared from the weights and from the three tables of code words. -/
def prepared (W0 : Mat 768 512) (W1 : Mat 512 256) (W2 : Mat 256 128) (W3 : Mat 128 32) (W4 : Mat 32 128) (W5 : Mat 128 256) (W6 : Mat 256 512) (W7 : Mat 512 768) (C : Fin 3 → Mat 256 32) : Par :=
  Par.mk W0 W1 W2 W3 W4 W5 W6 W7
    (fun i k => Ideal.ofBits FTy.f32 0xC0000000#32 * C 0 k i) (fun i k => Ideal.ofBits FTy.f32 0xC0000000#32 * C 1 k i) (fun i k => Ideal.ofBits FTy.f32 0xC0000000#32 * C 2 k i)
    (fun k => ∑ i, C 0 k i * C 0 k i) (fun k => ∑ i, C 1 k i * C 1 k i) (fun k => ∑ i, C 2 k i * C 2 k i)
    (fun i j => layer (C 0 ⟨i.val % 256, Nat.mod_lt _ (by norm_num)⟩ j) ⟨i.val / 256, by omega⟩)
    (fun i j => layer (C 1 ⟨i.val % 256, Nat.mod_lt _ (by norm_num)⟩ j) ⟨i.val / 256, by omega⟩)
    (fun i j => layer (C 2 ⟨i.val % 256, Nat.mod_lt _ (by norm_num)⟩ j) ⟨i.val / 256, by omega⟩)

theorem held_A (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    held (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9)
      = prepared (mat x1) (mat x2) (mat x3) (mat x4) (mat x5) (mat x6) (mat x7) (mat x8) (fun r k i => x9 (ix3 r k i)) := by
  unfold held prepared
  rw [sout0_A_8_eq, sout0_A_9_eq, sout0_A_10_eq]
  exact Par_congr (sout0_A_0_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_3_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_4_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_5_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_6_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (sout0_A_7_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) rfl rfl rfl rfl rfl rfl rfl rfl rfl

variable (m : (ℓ : Loc nD τ sig) → Buf (Elt Ideal) ℓ) (c : Dev nD)

theorem in1 (t : Fin cfg0.N) : (iblk m c 1 t : Vec Ideal S768x512 .f32) = m ((c : Thread nD τ).loc main_arg1) := by
  have hi : win0_1.index t 0 = 0 ∧ win0_1.index t 1 = 0 := (by decide +kernel : ∀ t : Fin grid0.N, win0_1.index t 0 = 0 ∧ win0_1.index t 1 = 0) t
  funext j
  show m ((c : Thread nD τ).loc main_arg1) (((cfg0.win 1).blk t).view.emb j) = _
  refine congrArg (m ((c : Thread nD τ).loc main_arg1)) (funext fun a => Fin.ext ?_)
  match a with
  | ⟨0, _⟩ => show win0_1.index t 0 * 768 + 1 * (j 0).val = (j 0).val; rw [hi.1]; omega
  | ⟨1, _⟩ => show win0_1.index t 1 * 512 + 1 * (j 1).val = (j 1).val; rw [hi.2]; omega
theorem in2 (t : Fin cfg0.N) : (iblk m c 2 t : Vec Ideal S512x256 .f32) = m ((c : Thread nD τ).loc main_arg3) := by
  have hi : win0_2.index t 0 = 0 ∧ win0_2.index t 1 = 0 := (by decide +kernel : ∀ t : Fin grid0.N, win0_2.index t 0 = 0 ∧ win0_2.index t 1 = 0) t
  funext j
  show m ((c : Thread nD τ).loc main_arg3) (((cfg0.win 2).blk t).view.emb j) = _
  refine congrArg (m ((c : Thread nD τ).loc main_arg3)) (funext fun a => Fin.ext ?_)
  match a with
  | ⟨0, _⟩ => show win0_2.index t 0 * 512 + 1 * (j 0).val = (j 0).val; rw [hi.1]; omega
  | ⟨1, _⟩ => show win0_2.index t 1 * 256 + 1 * (j 1).val = (j 1).val; rw [hi.2]; omega
theorem in3 (t : Fin cfg0.N) : (iblk m c 3 t : Vec Ideal S256x128 .f32) = m ((c : Thread nD τ).loc main_arg5) := by
  have hi : win0_3.index t 0 = 0 ∧ win0_3.index t 1 = 0 := (by decide +kernel : ∀ t : Fin grid0.N, win0_3.index t 0 = 0 ∧ win0_3.index t 1 = 0) t
  funext j
  show m ((c : Thread nD τ).loc main_arg5) (((cfg0.win 3).blk t).view.emb j) = _
  refine congrArg (m ((c : Thread nD τ).loc main_arg5)) (funext fun a => Fin.ext ?_)
  match a with
  | ⟨0, _⟩ => show win0_3.index t 0 * 256 + 1 * (j 0).val = (j 0).val; rw [hi.1]; omega
  | ⟨1, _⟩ => show win0_3.index t 1 * 128 + 1 * (j 1).val = (j 1).val; rw [hi.2]; omega
theorem in4 (t : Fin cfg0.N) : (iblk m c 4 t : Vec Ideal S128x32 .f32) = m ((c : Thread nD τ).loc main_arg7) := by
  have hi : win0_4.index t 0 = 0 ∧ win0_4.index t 1 = 0 := (by decide +kernel : ∀ t : Fin grid0.N, win0_4.index t 0 = 0 ∧ win0_4.index t 1 = 0) t
  funext j
  show m ((c : Thread nD τ).loc main_arg7) (((cfg0.win 4).blk t).view.emb j) = _
  refine congrArg (m ((c : Thread nD τ).loc main_arg7)) (funext fun a => Fin.ext ?_)
  match a with
  | ⟨0, _⟩ => show win0_4.index t 0 * 128 + 1 * (j 0).val = (j 0).val; rw [hi.1]; omega
  | ⟨1, _⟩ => show win0_4.index t 1 * 32 + 1 * (j 1).val = (j 1).val; rw [hi.2]; omega
theorem in5 (t : Fin cfg0.N) : (iblk m c 5 t : Vec Ideal S32x128 .f32) = m ((c : Thread nD τ).loc main_arg9) := by
  have hi : win0_5.index t 0 = 0 ∧ win0_5.index t 1 = 0 := (by decide +kernel : ∀ t : Fin grid0.N, win0_5.index t 0 = 0 ∧ win0_5.index t 1 = 0) t
  funext j
  show m ((c : Thread nD τ).loc main_arg9) (((cfg0.win 5).blk t).view.emb j) = _
  refine congrArg (m ((c : Thread nD τ).loc main_arg9)) (funext fun a => Fin.ext ?_)
  match a with
  | ⟨0, _⟩ => show win0_5.index t 0 * 32 + 1 * (j 0).val = (j 0).val; rw [hi.1]; omega
  | ⟨1, _⟩ => show win0_5.index t 1 * 128 + 1 * (j 1).val = (j 1).val; rw [hi.2]; omega
theorem in6 (t : Fin cfg0.N) : (iblk m c 6 t : Vec Ideal S128x256 .f32) = m ((c : Thread nD τ).loc main_arg11) := by
  have hi : win0_6.index t 0 = 0 ∧ win0_6.index t 1 = 0 := (by decide +kernel : ∀ t : Fin grid0.N, win0_6.index t 0 = 0 ∧ win0_6.index t 1 = 0) t
  funext j
  show m ((c : Thread nD τ).loc main_arg11) (((cfg0.win 6).blk t).view.emb j) = _
  refine congrArg (m ((c : Thread nD τ).loc main_arg11)) (funext fun a => Fin.ext ?_)
  match a with
  | ⟨0, _⟩ => show win0_6.index t 0 * 128 + 1 * (j 0).val = (j 0).val; rw [hi.1]; omega
  | ⟨1, _⟩ => show win0_6.index t 1 * 256 + 1 * (j 1).val = (j 1).val; rw [hi.2]; omega
theorem in7 (t : Fin cfg0.N) : (iblk m c 7 t : Vec Ideal S256x512 .f32) = m ((c : Thread nD τ).loc main_arg13) := by
  have hi : win0_7.index t 0 = 0 ∧ win0_7.index t 1 = 0 := (by decide +kernel : ∀ t : Fin grid0.N, win0_7.index t 0 = 0 ∧ win0_7.index t 1 = 0) t
  funext j
  show m ((c : Thread nD τ).loc main_arg13) (((cfg0.win 7).blk t).view.emb j) = _
  refine congrArg (m ((c : Thread nD τ).loc main_arg13)) (funext fun a => Fin.ext ?_)
  match a with
  | ⟨0, _⟩ => show win0_7.index t 0 * 256 + 1 * (j 0).val = (j 0).val; rw [hi.1]; omega
  | ⟨1, _⟩ => show win0_7.index t 1 * 512 + 1 * (j 1).val = (j 1).val; rw [hi.2]; omega
theorem in8 (t : Fin cfg0.N) : (iblk m c 8 t : Vec Ideal S512x768 .f32) = m ((c : Thread nD τ).loc main_arg15) := by
  have hi : win0_8.index t 0 = 0 ∧ win0_8.index t 1 = 0 := (by decide +kernel : ∀ t : Fin grid0.N, win0_8.index t 0 = 0 ∧ win0_8.index t 1 = 0) t
  funext j
  show m ((c : Thread nD τ).loc main_arg15) (((cfg0.win 8).blk t).view.emb j) = _
  refine congrArg (m ((c : Thread nD τ).loc main_arg15)) (funext fun a => Fin.ext ?_)
  match a with
  | ⟨0, _⟩ => show win0_8.index t 0 * 512 + 1 * (j 0).val = (j 0).val; rw [hi.1]; omega
  | ⟨1, _⟩ => show win0_8.index t 1 * 768 + 1 * (j 1).val = (j 1).val; rw [hi.2]; omega
theorem in9 (t : Fin cfg0.N) : (iblk m c 9 t : Vec Ideal S3x256x32 .f32) = m ((c : Thread nD τ).loc main_arg17) := by
  have hi : win0_9.index t 0 = 0 ∧ win0_9.index t 1 = 0 ∧ win0_9.index t 2 = 0 := (by decide +kernel : ∀ t : Fin grid0.N, win0_9.index t 0 = 0 ∧ win0_9.index t 1 = 0 ∧ win0_9.index t 2 = 0) t
  funext j
  show m ((c : Thread nD τ).loc main_arg17) (((cfg0.win 9).blk t).view.emb j) = _
  refine congrArg (m ((c : Thread nD τ).loc main_arg17)) (funext fun a => Fin.ext ?_)
  match a with
  | ⟨0, _⟩ => show win0_9.index t 0 * 3 + 1 * (j 0).val = (j 0).val; rw [hi.1]; omega
  | ⟨1, _⟩ => show win0_9.index t 1 * 256 + 1 * (j 1).val = (j 1).val; rw [hi.2.1]; omega
  | ⟨2, _⟩ => show win0_9.index t 2 * 32 + 1 * (j 2).val = (j 2).val; rw [hi.2.2]; omega
/-- The rows a grid point loads. -/
theorem in0 (t : Fin cfg0.N) (p : Fin 2048) (h : 2048 * t.val + p.val < 16384) :
    mat (n := 2048) (k := 768) (iblk m c 0 t : Vec Ideal S2048x768 .f32) p = mat (n := 16384) (k := 768) (m ((c : Thread nD τ).loc main_arg0)) ⟨2048 * t.val + p.val, h⟩ := by
  have hi : win0_0.index t 0 = t.val ∧ win0_0.index t 1 = 0 := (by decide +kernel : ∀ t : Fin grid0.N, win0_0.index t 0 = t.val ∧ win0_0.index t 1 = 0) t
  funext b
  show m ((c : Thread nD τ).loc main_arg0) (((cfg0.win 0).blk t).view.emb (ix2 p b)) = _
  refine congrArg (m ((c : Thread nD τ).loc main_arg0)) (funext fun a => Fin.ext ?_)
  match a with
  | ⟨0, _⟩ => show win0_0.index t 0 * 2048 + 1 * p.val = 2048 * t.val + p.val; rw [hi.1]; omega
  | ⟨1, _⟩ => show win0_0.index t 1 * 768 + 1 * b.val = b.val; rw [hi.2]; omega

/-- The tables of the whole run. -/
def tabs : Par := prepared (mat (n := 768) (k := 512) (m ((c : Thread nD τ).loc main_arg1))) (mat (n := 512) (k := 256) (m ((c : Thread nD τ).loc main_arg3))) (mat (n := 256) (k := 128) (m ((c : Thread nD τ).loc main_arg5))) (mat (n := 128) (k := 32) (m ((c : Thread nD τ).loc main_arg7))) (mat (n := 32) (k := 128) (m ((c : Thread nD τ).loc main_arg9))) (mat (n := 128) (k := 256) (m ((c : Thread nD τ).loc main_arg11))) (mat (n := 256) (k := 512) (m ((c : Thread nD τ).loc main_arg13))) (mat (n := 512) (k := 768) (m ((c : Thread nD τ).loc main_arg15)))
  (fun r k i => m ((c : Thread nD τ).loc main_arg17) (ix3 (n0 := 3) (n1 := 256) (n2 := 32) r k i))
/-- The sum of squares of one point's rows, scaled. -/
def gainOf (P : Par) (X : Vec Ideal S2048x768 .f32) : EReal :=
  P.sum4 (tile X 0) (tile X 1) (tile X 2) (tile X 3) * Ideal.ofBits FTy.f32 0x36200000#32

/-- The sum of squares one grid point adds. -/
def gain (t : Fin cfg0.N) : EReal := gainOf (tabs m c) (iblk m c 0 t)
/-- What the points up to `n` have added. -/
def upTo : (n : ℕ) → n < cfg0.N → EReal
  | 0, h => 0 + gain m c ⟨0, h⟩
  | n + 1, h => upTo n (Nat.lt_of_succ_lt h) + gain m c ⟨n + 1, h⟩

/-- What a point that works with the tables `P` on the rows `X`, bringing the loss to `L`, leaves. -/
structure Left (P : Par) (X : Vec Ideal S2048x768 .f32) (L : EReal) (o : Vec Ideal S2048x768 .f32 × Vec Ideal S2048x3 .i32 × Vec Ideal S1x1 .f32 × Vec Ideal S768x512 .bf16 × Vec Ideal S512x256 .bf16 × Vec Ideal S256x128 .bf16 × Vec Ideal S128x32 .bf16 × Vec Ideal S32x128 .bf16 × Vec Ideal S128x256 .bf16 × Vec Ideal S256x512 .bf16 × Vec Ideal S512x768 .bf16 × Vec Ideal S3x32x256 .bf16 × Vec Ideal S3x3x256x32 .bf16 × Vec Ideal S3x1x256 .f32) : Prop where
  hk : held (o.2.2.2.1) (o.2.2.2.2.1) (o.2.2.2.2.2.1) (o.2.2.2.2.2.2.1) (o.2.2.2.2.2.2.2.1) (o.2.2.2.2.2.2.2.2.1) (o.2.2.2.2.2.2.2.2.2.1) (o.2.2.2.2.2.2.2.2.2.2.1) (o.2.2.2.2.2.2.2.2.2.2.2.1) (o.2.2.2.2.2.2.2.2.2.2.2.2.1) (o.2.2.2.2.2.2.2.2.2.2.2.2.2) = P
  h10 : o.1 = fun y => P.out (mat (n := 2048) (k := 768) X (y 0)) (y 1)
  h11 : o.2.1 = fun y => Ideal.fptosi 32 (P.ind (mat (n := 2048) (k := 768) X (y 0)) (y 1))
  h12 : o.2.2.1 (ix2 0 0) = L

theorem Left.mk' {P : Par} {X : Vec Ideal S2048x768 .f32} {L : EReal} {a : Vec Ideal S2048x768 .f32} {b : Vec Ideal S2048x3 .i32} {d : Vec Ideal S1x1 .f32}
    {xs0 : Vec Ideal S768x512 .bf16} {xs1 : Vec Ideal S512x256 .bf16} {xs2 : Vec Ideal S256x128 .bf16} {xs3 : Vec Ideal S128x32 .bf16} {xs4 : Vec Ideal S32x128 .bf16} {xs5 : Vec Ideal S128x256 .bf16} {xs6 : Vec Ideal S256x512 .bf16} {xs7 : Vec Ideal S512x768 .bf16} {xs8 : Vec Ideal S3x32x256 .bf16} {xs9 : Vec Ideal S3x3x256x32 .bf16} {xs10 : Vec Ideal S3x1x256 .f32}
    (hk : held xs0 xs1 xs2 xs3 xs4 xs5 xs6 xs7 xs8 xs9 xs10 = P) (h10 : a = fun y => P.out (mat (n := 2048) (k := 768) X (y 0)) (y 1))
    (h11 : b = fun y => Ideal.fptosi 32 (P.ind (mat (n := 2048) (k := 768) X (y 0)) (y 1))) (h12 : d (ix2 0 0) = L) :
    Left P X L (a, b, d, xs0, xs1, xs2, xs3, xs4, xs5, xs6, xs7, xs8, xs9, xs10) := ⟨hk, h10, h11, h12⟩

theorem leftOf_A (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) :
    Left (prepared (mat x1) (mat x2) (mat x3) (mat x4) (mat x5) (mat x6) (mat x7) (mat x8) (fun r k i => x9 (ix3 r k i))) x0 (0 + gainOf (prepared (mat x1) (mat x2) (mat x3) (mat x4) (mat x5) (mat x6) (mat x7) (mat x8) (fun r k i => x9 (ix3 r k i))) x0)
      (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9, sout0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) := by
  have ek := held_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9
  rw [← ek]
  exact Left.mk' rfl (out0_A_10_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (out0_A_11_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9) (out0_A_12_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9)

theorem leftOf_B (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S128x32 .f32) (harg5 : arg5.IsWhole) (arg6 : Memref sig .tc .vmem S32x128 .f32) (harg6 : arg6.IsWhole) (arg7 : Memref sig .tc .vmem S128x256 .f32) (harg7 : arg7.IsWhole) (arg8 : Memref sig .tc .vmem S256x512 .f32) (harg8 : arg8.IsWhole) (arg9 : Memref sig .tc .vmem S512x768 .f32) (harg9 : arg9.IsWhole) (arg10 : Memref sig .tc .vmem S3x256x32 .f32) (harg10 : arg10.IsWhole) (arg11 : Memref sig .tc .vmem S2048x768 .f32) (harg11 : arg11.IsWhole) (arg12 : Memref sig .tc .vmem S2048x3 .i32) (harg12 : arg12.IsWhole) (arg13 : Memref sig .tc .vmem S1x1 .f32) (harg13 : arg13.IsWhole) (arg14 : Memref sig .tc .vmem S768x512 .bf16) (harg14 : arg14.IsWhole) (arg15 : Memref sig .tc .vmem S512x256 .bf16) (harg15 : arg15.IsWhole) (arg16 : Memref sig .tc .vmem S256x128 .bf16) (harg16 : arg16.IsWhole) (arg17 : Memref sig .tc .vmem S128x32 .bf16) (harg17 : arg17.IsWhole) (arg18 : Memref sig .tc .vmem S32x128 .bf16) (harg18 : arg18.IsWhole) (arg19 : Memref sig .tc .vmem S128x256 .bf16) (harg19 : arg19.IsWhole) (arg20 : Memref sig .tc .vmem S256x512 .bf16) (harg20 : arg20.IsWhole) (arg21 : Memref sig .tc .vmem S512x768 .bf16) (harg21 : arg21.IsWhole) (arg22 : Memref sig .tc .vmem S3x32x256 .bf16) (harg22 : arg22.IsWhole) (arg23 : Memref sig .tc .vmem S3x3x256x32 .bf16) (harg23 : arg23.IsWhole) (arg24 : Memref sig .tc .vmem S3x1x256 .f32) (harg24 : arg24.IsWhole) (hc0 : ¬cond0_0 i)
    (x0 : Vec Ideal S2048x768 .f32) (x1 : Vec Ideal S768x512 .f32) (x2 : Vec Ideal S512x256 .f32) (x3 : Vec Ideal S256x128 .f32) (x4 : Vec Ideal S128x32 .f32) (x5 : Vec Ideal S32x128 .f32) (x6 : Vec Ideal S128x256 .f32) (x7 : Vec Ideal S256x512 .f32) (x8 : Vec Ideal S512x768 .f32) (x9 : Vec Ideal S3x256x32 .f32) (xo12 : Vec Ideal S1x1 .f32) (xs0 : Vec Ideal S768x512 .bf16) (xs1 : Vec Ideal S512x256 .bf16) (xs2 : Vec Ideal S256x128 .bf16) (xs3 : Vec Ideal S128x32 .bf16) (xs4 : Vec Ideal S32x128 .bf16) (xs5 : Vec Ideal S128x256 .bf16) (xs6 : Vec Ideal S256x512 .bf16) (xs7 : Vec Ideal S512x768 .bf16) (xs8 : Vec Ideal S3x32x256 .bf16) (xs9 : Vec Ideal S3x3x256x32 .bf16) (xs10 : Vec Ideal S3x1x256 .f32) (P : Par) (hk : held xs0 xs1 xs2 xs3 xs4 xs5 xs6 xs7 xs8 xs9 xs10 = P) (L : EReal) (hL : xo12 (ix2 0 0) = L) :
    Left P x0 (L + gainOf P x0)
      (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10, sout0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10) := by
  subst hk hL
  exact Left.mk' rfl (out0_B_10_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10) (out0_B_11_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10) (out0_B_12_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 xo12 xs0 xs1 xs2 xs3 xs4 xs5 xs6 xs7 xs8 xs9 xs10)

theorem left_A (t : Fin cfg0.N) (h0 : t.val % 8 = 0) : Left (tabs m c) (iblk m c 0 t) (0 + gain m c t) (outsAt0 m c t.val t.isLt) := by
  rw [outsAt0_A m c t h0]
  have h := leftOf_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)
  have e : prepared (mat (n := 768) (k := 512) (iblk m c 1 t)) (mat (n := 512) (k := 256) (iblk m c 2 t)) (mat (n := 256) (k := 128) (iblk m c 3 t)) (mat (n := 128) (k := 32) (iblk m c 4 t)) (mat (n := 32) (k := 128) (iblk m c 5 t)) (mat (n := 128) (k := 256) (iblk m c 6 t)) (mat (n := 256) (k := 512) (iblk m c 7 t)) (mat (n := 512) (k := 768) (iblk m c 8 t)) (fun r k i => (iblk m c 9 t : Vec Ideal S3x256x32 .f32) (ix3 r k i)) = tabs m c := by
    rw [in1, in2, in3, in4, in5, in6, in7, in8, in9]; rfl
  rw [e] at h
  exact h

theorem left_B (t : Fin cfg0.N) (h0 : ¬t.val % 8 = 0) (X : Vec Ideal S2048x768 .f32) (L : EReal)
    (ih : Left (tabs m c) X L (outsAt0 m c (t.val - 1) (Nat.lt_of_le_of_lt (Nat.sub_le _ _) t.isLt))) :
    Left (tabs m c) (iblk m c 0 t) (L + gain m c t) (outsAt0 m c t.val t.isLt) := by
  rw [outsAt0_B m c t h0]
  exact leftOf_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) ((outsAt0 m c (t.val - 1) (Nat.lt_of_le_of_lt (Nat.sub_le _ _) t.isLt)).2.2.1) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2.1) ((outsAt0 m c (t.val - 1) (Nat.lt_of_le_of_lt (Nat.sub_le _ _) t.isLt)).2.2.2.2.2.2.2.2.2.2.2.2.2) (tabs m c) ih.hk L ih.h12

theorem left : ∀ (n : ℕ) (h : n < cfg0.N), Left (tabs m c) (iblk m c 0 ⟨n, h⟩) (upTo m c n h) (outsAt0 m c n h)
  | 0, h => left_A m c ⟨0, h⟩ rfl
  | n + 1, h => left_B m c ⟨n + 1, h⟩ (by have : n + 1 < 8 := lt_of_lt_of_eq h (show cfg0.N = 8 from N_0); show ¬(n + 1) % 8 = 0; omega) _ _ (left n (Nat.lt_of_succ_lt h))

/-- The reconstruction the kernel leaves. -/
theorem G10_eq (p : Fin 16384) (j : Fin 768) :
    G10 m c (ix2 p j) = (tabs m c).out (mat (n := 16384) (k := 768) (m ((c : Thread nD τ).loc main_arg0)) p) j := by
  have hp : pt10Of (ix2 p j) = p.val / 2048 := by
    show 1 * (p.val / 2048 - 0) + 1 * (j.val / 768 - 0) = p.val / 2048
    have := j.isLt; omega
  have hN : pt10Of (ix2 p j) < cfg0.N := by rw [hp]; exact lt_of_lt_of_eq (by have := p.isLt; omega) N_0.symm
  unfold G10
  rw [dif_pos hN, ← outsAt0_sweep m c _ hN, (left m c _ hN).h10]
  refine congr (congrArg (tabs m c).out ((in0 m c _ _ (by show 2048 * pt10Of (ix2 p j) + p.val % 2048 < 16384; rw [hp]; have := p.isLt; omega)).trans (congrArg (mat (n := 16384) (k := 768) (m ((c : Thread nD τ).loc main_arg0))) (Fin.ext ?_)))) (Fin.ext ?_)
  · show 2048 * pt10Of (ix2 p j) + p.val % 2048 = p.val
    rw [hp]; omega
  · show j.val % 768 = j.val
    exact Nat.mod_eq_of_lt j.isLt

/-- The positions the kernel leaves. -/
theorem G11_eq (p : Fin 16384) (j : Fin 3) :
    G11 m c (ix2 p j) = Ideal.fptosi 32 ((tabs m c).ind (mat (n := 16384) (k := 768) (m ((c : Thread nD τ).loc main_arg0)) p) j) := by
  have hp : pt11Of (ix2 p j) = p.val / 2048 := by
    show 1 * (p.val / 2048 - 0) + 1 * (j.val / 3 - 0) = p.val / 2048
    have := j.isLt; omega
  have hN : pt11Of (ix2 p j) < cfg0.N := by rw [hp]; exact lt_of_lt_of_eq (by have := p.isLt; omega) N_0.symm
  unfold G11
  rw [dif_pos hN, ← outsAt0_sweep m c _ hN, (left m c _ hN).h11]
  refine congrArg (Ideal.fptosi 32) (congr (congrArg (tabs m c).ind ((in0 m c _ _ (by show 2048 * pt11Of (ix2 p j) + p.val % 2048 < 16384; rw [hp]; have := p.isLt; omega)).trans (congrArg (mat (n := 16384) (k := 768) (m ((c : Thread nD τ).loc main_arg0))) (Fin.ext ?_)))) (Fin.ext ?_))
  · show 2048 * pt11Of (ix2 p j) + p.val % 2048 = p.val
    rw [hp]; omega
  · show j.val % 3 = j.val
    exact Nat.mod_eq_of_lt j.isLt

/-- The loss the kernel leaves. -/
theorem G12_eq : G12 m c (ix2 0 0) = upTo m c 7 (lt_of_lt_of_eq (by decide) N_0.symm) := by
  rw [G12_last, ← outsAt0_sweep m c 7 (lt_of_lt_of_eq (by decide) N_0.symm)]
  exact (left m c 7 (lt_of_lt_of_eq (by decide) N_0.symm)).h12

end Cert.KernelIdeal.Hand

end
end
-- ==== Proof.Bridge.lean ====
module
public import proofs.«01_k».proof.Proof.KGrid
public import proofs.«01_k».proof.Proof.RefRead

/-! On finite rows and finite code words the two ways of one round agree. -/

@[expose] public section

noncomputable section

namespace Cert.Rows

open Idealize.ShloMosaic Cert.KernelIdeal.Hand

/-- A finite number. -/
def Fine (x : EReal) : Prop := ∃ y : ℝ, x = (y : EReal)
/-- A row of finite numbers. -/
def FineRow {n : Nat} (r : Row n) : Prop := ∀ j, Fine (r j)

theorem fine_add {x y : EReal} : Fine x → Fine y → Fine (x + y)
  | ⟨a, ha⟩, ⟨b, hb⟩ => ⟨a + b, by rw [ha, hb, EReal.coe_add]⟩
theorem fine_sub {x y : EReal} : Fine x → Fine y → Fine (x - y)
  | ⟨a, ha⟩, ⟨b, hb⟩ => ⟨a - b, by rw [ha, hb, EReal.coe_sub]⟩
theorem fine_mul {x y : EReal} : Fine x → Fine y → Fine (x * y)
  | ⟨a, ha⟩, ⟨b, hb⟩ => ⟨a * b, by rw [ha, hb, EReal.coe_mul]⟩
theorem fine_max {x y : EReal} (h : Fine x) (g : Fine y) : Fine (max x y) := by
  rcases max_choice x y with e | e <;> rw [e] <;> assumption
theorem fine_zero : Fine 0 := ⟨0, EReal.coe_zero.symm⟩

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem fine_sum {ι : Type} (s : Finset ι) (f : ι → EReal) (h : ∀ i, Fine (f i)) : Fine (∑ i ∈ s, f i) := by
  choose g hg using h
  exact ⟨∑ i ∈ s, g i, by rw [← sum_coe]; exact Finset.sum_congr rfl fun i _ => hg i⟩

theorem fine_lin {n k : Nat} {M : Mat n k} {x : Row n} (hM : ∀ i, FineRow (M i)) (hx : FineRow x) : FineRow (lin M x) :=
  fun j => fine_sum _ _ fun i => fine_mul (hx i) (hM i j)
theorem fine_relu {n : Nat} {x : Row n} (hx : FineRow x) : FineRow (relu x) := fun j => fine_max (hx j) fine_zero
theorem fine_ssq {n : Nat} {x : Row n} (hx : FineRow x) : Fine (ssq x) := fine_sum _ _ fun i => fine_mul (hx i) (hx i)
theorem fine_subrow {n : Nat} {x y : Row n} (hx : FineRow x) (hy : FineRow y) : FineRow (sub x y) := fun j => fine_sub (hx j) (hy j)

theorem fine_enc {W0 : Mat 768 512} {W1 : Mat 512 256} {W2 : Mat 256 128} {W3 : Mat 128 32} {x : Row 768}
    (h0 : ∀ i, FineRow (W0 i)) (h1 : ∀ i, FineRow (W1 i)) (h2 : ∀ i, FineRow (W2 i)) (h3 : ∀ i, FineRow (W3 i)) (hx : FineRow x) :
    FineRow (enc W0 W1 W2 W3 x) :=
  fine_lin h3 (fine_relu (fine_lin h2 (fine_relu (fine_lin h1 (fine_relu (fine_lin h0 hx))))))

theorem bits_two : Ideal.ofBits FTy.f32 0x40000000#32 = ((2 : ℝ) : EReal) := by
  simp [Ideal.ofBits, Ideal.ieee, -EReal.coe_mul]; norm_num
theorem bits_minus_two : Ideal.ofBits FTy.f32 0xC0000000#32 = ((-2 : ℝ) : EReal) := by
  simp [Ideal.ofBits, Ideal.ieee, -EReal.coe_mul]; norm_num
theorem bits_count : Ideal.ofBits FTy.f32 0x49000000#32 = ((524288 : ℝ) : EReal) := by
  simp [Ideal.ofBits, Ideal.ieee, -EReal.coe_mul]; norm_num
theorem bits_quarter : Ideal.ofBits FTy.f32 0x3E800000#32 = ((1 / 4 : ℝ) : EReal) := by
  simp [Ideal.ofBits, Ideal.ieee, -EReal.coe_mul]; norm_num
theorem bits_scale : Ideal.ofBits FTy.f32 0x36200000#32 = ((5 / 4 / 524288 : ℝ) : EReal) := by
  simp [Ideal.ofBits, Ideal.ieee, -EReal.coe_mul]; norm_num

/-- The prepared product table of a table of code words. -/
def tabT (cb : Mat 256 32) : Mat 32 256 := fun i k => Ideal.ofBits FTy.f32 0xC0000000#32 * cb k i
/-- The prepared offsets. -/
def tabN (cb : Mat 256 32) : Row 256 := fun k => ∑ i, cb k i * cb k i
/-- The stacked code words. -/
def tabS (cb : Mat 256 32) : Mat 768 32 := fun i j =>
  layer (cb ⟨i.val % 256, Nat.mod_lt _ (by norm_num)⟩ j) ⟨i.val / 256, by omega⟩

section Round

variable {cb : Mat 256 32} {r : Row 32} (hcb : ∀ k, FineRow (cb k)) (hr : FineRow r)

include hcb hr

/-- The distances agree. -/
theorem dist_agree : kdist (tabT cb) (tabN cb) r = refd cb r := by
  choose c hc using hcb
  choose ρ hρ using hr
  obtain rfl : cb = fun k i => ((c k i : ℝ) : EReal) := by funext k i; exact hc k i
  obtain rfl : r = fun i => ((ρ i : ℝ) : EReal) := by funext i; exact hρ i
  funext k
  unfold kdist refd tabT tabN lin ssq
  simp only [bits_two, bits_minus_two, ← EReal.coe_mul, sum_coe, zero_add, ← EReal.coe_add, ← EReal.coe_sub]
  congr 1
  have : ∑ i, ρ i * (-2 * c k i) = -∑ i, 2 * ρ i * c k i := by
    rw [← Finset.sum_neg_distrib]
    exact Finset.sum_congr rfl fun i _ => by ring
  rw [this]
  ring

omit hcb in
/-- From a finite row the chosen code word is reached. -/
theorem reach_eq {e : Row 32} (he : FineRow e) : reach r e = e := by
  funext j
  obtain ⟨a, ha⟩ := hr j
  obtain ⟨b, hb⟩ := he j
  unfold reach
  rw [ha, hb, ← EReal.coe_sub, ← EReal.coe_add]
  congr 1
  ring

end Round

theorem low_least {d : Row 256} {k : Fin 256} (h : Least d k) : low d = d k := by
  refine le_antisymm (Finset.fold_min_le _ |>.mpr (Or.inr ⟨k, Finset.mem_univ _, le_refl _⟩)) ?_
  refine Finset.le_fold_min _ |>.mpr ⟨le_top, fun l _ => ?_⟩
  rcases h l with h | ⟨h, _⟩
  · exact h.le
  · exact h.le

/-- The search by two minima ends at the first of the smallest. -/
theorem spot_least {d : Row 256} {k : Fin 256} (h : Least d k) : spot d (low d) = ((k.val : ℝ) : EReal) := by
  rw [low_least h]
  refine le_antisymm ?_ ?_
  · refine Finset.fold_min_le _ |>.mpr (Or.inr ⟨k, Finset.mem_univ _, ?_⟩)
    unfold within
    rw [if_pos (le_refl _)]
  · refine Finset.le_fold_min _ |>.mpr ⟨le_top, fun l _ => ?_⟩
    unfold within
    split
    · rename_i hl
      rcases h l with h | ⟨_, h⟩
      · exact absurd hl (not_le.mpr h)
      · exact_mod_cast h
    · exact_mod_cast k.isLt.le

/-- A one-hot row picks one code word. -/
theorem word_hot {cb : Mat 256 32} (hcb : ∀ k, FineRow (cb k)) (k : Fin 256) : word (tabS cb) (hot ((k.val : ℝ) : EReal)) = cb k := by
  funext j
  unfold word lin
  have hk := k.isLt
  rw [Finset.sum_eq_single (⟨k.val, by omega⟩ : Fin 768)]
  · have h1 : thrice (hot ((k.val : ℝ) : EReal)) ⟨k.val, by omega⟩ = 1 := by
      unfold thrice hot same
      rw [if_pos]
      simp only [Nat.mod_eq_of_lt hk]
    rw [h1, one_mul]
    unfold tabS
    have e1 : (⟨(⟨k.val, by omega⟩ : Fin 768).val % 256, Nat.mod_lt _ (by norm_num)⟩ : Fin 256) = k := Fin.ext (Nat.mod_eq_of_lt hk)
    have e2 : (⟨(⟨k.val, by omega⟩ : Fin 768).val / 256, by omega⟩ : Fin 3) = 0 := Fin.ext (Nat.div_eq_of_lt hk)
    rw [e1, e2]
    rfl
  · intro i _ hi
    by_cases hm : i.val % 256 = k.val
    · have hz : tabS cb i j = 0 := by
        unfold tabS layer
        obtain ⟨y, hy⟩ := hcb ⟨i.val % 256, Nat.mod_lt _ (by norm_num)⟩ j
        rw [hy]
        have hd : i.val / 256 = 1 ∨ i.val / 256 = 2 := by
          have h0 : i.val / 256 ≠ 0 := by
            intro h0
            exact hi (Fin.ext (by show i.val = k.val; omega))
          have := i.isLt
          omega
        rcases hd with h | h
        · have e : (⟨i.val / 256, by omega⟩ : Fin 3) = 1 := Fin.ext h
          rw [e]
          show ((y : ℝ) : EReal) - y = 0
          rw [← EReal.coe_sub, sub_self, EReal.coe_zero]
        · have e : (⟨i.val / 256, by omega⟩ : Fin 3) = 2 := Fin.ext h
          rw [e]
          show (((y : ℝ) : EReal) - y) - (((y : ℝ) : EReal) - y) = 0
          rw [← EReal.coe_sub, sub_self, ← EReal.coe_sub, sub_self, EReal.coe_zero]
      rw [hz, mul_zero]
    · have hz : thrice (hot ((k.val : ℝ) : EReal)) i = 0 := by
        unfold thrice hot same
        rw [if_neg]
        intro h
        exact hm (by exact_mod_cast h)
      rw [hz, zero_mul]
  · intro h
    exact absurd (Finset.mem_univ _) h

/-- The word of a position. -/
theorem toWord (k : Fin 256) : Ideal.fptosi 32 ((k.val : ℝ) : EReal) = BitVec.ofNat 32 k.val := by
  have hk := k.isLt
  unfold Ideal.fptosi
  rw [Ideal.toIntClamped_coe, if_pos (by positivity), Int.floor_natCast, min_eq_right, max_eq_right]
  · exact BitVec.ofInt_natCast ..
  · have : (0 : ℤ) ≤ (k.val : ℤ) := by positivity
    refine le_trans ?_ this
    norm_num
  · have : (k.val : ℤ) < 256 := by exact_mod_cast hk
    norm_num
    omega

/-- One round: where the reference finds `k`, so does the kernel, and it takes the same code word. -/
theorem round_agree {cb : Mat 256 32} {r : Row 32} (hcb : ∀ k, FineRow (cb k)) (hr : FineRow r) {k : Fin 256}
    (h : Least (refd cb r) k) :
    code (tabT cb) (tabN cb) r = ((k.val : ℝ) : EReal) ∧ pickw (tabT cb) (tabN cb) (tabS cb) r = cb k
      ∧ rest (tabT cb) (tabN cb) (tabS cb) r = sub r (cb k) := by
  have hc : code (tabT cb) (tabN cb) r = ((k.val : ℝ) : EReal) := by
    unfold code
    rw [dist_agree hcb hr]
    exact spot_least h
  have hp : pickw (tabT cb) (tabN cb) (tabS cb) r = cb k := by
    unfold pickw
    rw [hc]
    exact word_hot hcb k
  exact ⟨hc, hp, by unfold rest; rw [hp]⟩

end Cert.Rows

end
end
-- ==== Proof.Loss.lean ====
module
public import proofs.«01_k».proof.Proof.Bridge

/-! The two ways of adding up the loss agree. -/

@[expose] public section

set_option maxRecDepth 16384

noncomputable section

namespace Cert.Rows

open Idealize.ShloMosaic

/-- The loss of three rounds' squared lengths. -/
def total (s0 s1 s2 : Fin 16384 → ℝ) : ℝ := (∑ p, (s0 p + s1 p + s2 p)) * (5 / 4 / 524288)

theorem meansq_eq (R E : Mat 16384 32) (s : Fin 16384 → ℝ) (h : ∀ p, ssq (sub (R p) (E p)) = ((s p : ℝ) : EReal)) :
    meansq R E = (((∑ p, s p) / 524288 : ℝ) : EReal) := by
  have e : (∑ p, ∑ j, (R p j - E p j) * (R p j - E p j)) = ((∑ p, s p : ℝ) : EReal) := by
    rw [← sum_coe]
    exact Finset.sum_congr rfl fun p _ => h p
  unfold meansq
  rw [e, zero_add, bits_count, Ideal.div_coe (by norm_num), ← EReal.coe_mul, mul_one_div]

/-- The reference's loss. -/
theorem ref_loss (R0 E0 R1 E1 R2 E2 : Mat 16384 32) (s0 s1 s2 : Fin 16384 → ℝ)
    (h0 : ∀ p, ssq (sub (R0 p) (E0 p)) = ((s0 p : ℝ) : EReal)) (h1 : ∀ p, ssq (sub (R1 p) (E1 p)) = ((s1 p : ℝ) : EReal))
    (h2 : ∀ p, ssq (sub (R2 p) (E2 p)) = ((s2 p : ℝ) : EReal)) :
    addloss (addloss (addloss 0 R0 E0) R1 E1) R2 E2 = ((total s0 s1 s2 : ℝ) : EReal) := by
  unfold addloss
  rw [meansq_eq R0 E0 s0 h0, meansq_eq R1 E1 s1 h1, meansq_eq R2 E2 s2 h2, bits_quarter, zero_add]
  simp only [← EReal.coe_mul, ← EReal.coe_add]
  congr 1
  unfold total
  rw [Finset.sum_add_distrib, Finset.sum_add_distrib]
  ring

theorem sum_split {a b : ℕ} (g : Fin (a * b) → ℝ) :
    ∑ q, g q = ∑ x : Fin a, ∑ y : Fin b, g (finProdFinEquiv (x, y)) := by
  rw [← finProdFinEquiv.sum_comp, Fintype.sum_prod_type]

/-- A sum over all rows, point by point and slice by slice. -/
theorem sum_rows (g : Fin 16384 → ℝ) :
    ∑ q, g q = ∑ t : Fin 8, ∑ o : Fin 4, ∑ p : Fin 512, g ⟨2048 * t.val + (512 * o.val + p.val), by omega⟩ := by
  refine (sum_split (a := 8) (b := 2048) g).trans (Finset.sum_congr rfl fun t _ => ?_)
  refine (sum_split (a := 4) (b := 512) fun q => g (finProdFinEquiv (m := 8) (n := 2048) (t, q))).trans
    (Finset.sum_congr rfl fun o _ => Finset.sum_congr rfl fun p _ => congrArg g (Fin.ext ?_))
  show (p.val + 512 * o.val) + 2048 * t.val = 2048 * t.val + (512 * o.val + p.val)
  omega

end Cert.Rows

namespace Cert.KernelIdeal.Hand

open Idealize.ShloMosaic Idealize.ShloMosaic.TcCoe Idealize.SL.Sem Cert.Rows Cert.KernelIdeal Cert.KernelIdeal.Gen Cert.KernelIdeal.Value

variable (m : (ℓ : Loc nD τ sig) → Buf (Elt Ideal) ℓ) (c : Dev nD)

/-- One of the rows the kernel is given. -/
def rowOf (p : Fin 16384) : Row 768 := mat (n := 16384) (k := 768) (m ((c : Thread nD τ).loc main_arg0)) p

theorem gain_eq (s0 s1 s2 : Fin 16384 → ℝ)
    (h0 : ∀ p, ssq ((tabs m c).r1 (rowOf m c p)) = ((s0 p : ℝ) : EReal)) (h1 : ∀ p, ssq ((tabs m c).r2 (rowOf m c p)) = ((s1 p : ℝ) : EReal))
    (h2 : ∀ p, ssq ((tabs m c).r3 (rowOf m c p)) = ((s2 p : ℝ) : EReal)) (t : Fin 8) (ht : t.val < cfg0.N) :
    gain m c ⟨t.val, ht⟩ = (((∑ o : Fin 4, ∑ p : Fin 512, (s0 ⟨2048 * t.val + (512 * o.val + p.val), by omega⟩
      + s1 ⟨2048 * t.val + (512 * o.val + p.val), by omega⟩ + s2 ⟨2048 * t.val + (512 * o.val + p.val), by omega⟩)) * (5 / 4 / 524288) : ℝ) : EReal) := by
  have hrow : ∀ (o : Fin 4) (p : Fin 512), tile (iblk m c 0 ⟨t.val, ht⟩) o p = rowOf m c ⟨2048 * t.val + (512 * o.val + p.val), by omega⟩ :=
    fun o p => in0 m c ⟨t.val, ht⟩ ⟨512 * o.val + p.val, by omega⟩ _
  have e1 : ∀ o : Fin 4, (tabs m c).l1 (tile (iblk m c 0 ⟨t.val, ht⟩) o) = ((∑ p : Fin 512, s0 ⟨2048 * t.val + (512 * o.val + p.val), by omega⟩ : ℝ) : EReal) := by
    intro o
    rw [← sum_coe]
    exact Finset.sum_congr rfl fun p _ => by rw [hrow, h0]
  have e2 : ∀ o : Fin 4, (tabs m c).l2 (tile (iblk m c 0 ⟨t.val, ht⟩) o) = ((∑ p : Fin 512, s1 ⟨2048 * t.val + (512 * o.val + p.val), by omega⟩ : ℝ) : EReal) := by
    intro o
    rw [← sum_coe]
    exact Finset.sum_congr rfl fun p _ => by rw [hrow, h1]
  have e3 : ∀ o : Fin 4, (tabs m c).l3 (tile (iblk m c 0 ⟨t.val, ht⟩) o) = ((∑ p : Fin 512, s2 ⟨2048 * t.val + (512 * o.val + p.val), by omega⟩ : ℝ) : EReal) := by
    intro o
    rw [← sum_coe]
    exact Finset.sum_congr rfl fun p _ => by rw [hrow, h2]
  unfold gain gainOf Par.sum4
  simp only [e1, e2, e3, bits_scale, zero_add, ← EReal.coe_mul, ← EReal.coe_add]
  congr 1
  simp only [Finset.sum_add_distrib, Fin.sum_univ_four (M := ℝ)]
  ring

/-- The kernel's loss. -/
theorem ker_loss (s0 s1 s2 : Fin 16384 → ℝ)
    (h0 : ∀ p, ssq ((tabs m c).r1 (rowOf m c p)) = ((s0 p : ℝ) : EReal)) (h1 : ∀ p, ssq ((tabs m c).r2 (rowOf m c p)) = ((s1 p : ℝ) : EReal))
    (h2 : ∀ p, ssq ((tabs m c).r3 (rowOf m c p)) = ((s2 p : ℝ) : EReal)) (h7 : 7 < cfg0.N) :
    upTo m c 7 h7 = ((total s0 s1 s2 : ℝ) : EReal) := by
  have hg := gain_eq m c s0 s1 s2 h0 h1 h2
  generalize hA : (fun t : Fin 8 => (∑ o : Fin 4, ∑ p : Fin 512, (s0 ⟨2048 * t.val + (512 * o.val + p.val), by omega⟩
      + s1 ⟨2048 * t.val + (512 * o.val + p.val), by omega⟩ + s2 ⟨2048 * t.val + (512 * o.val + p.val), by omega⟩))) = A
  have hg' : ∀ (t : Fin 8) (ht : t.val < cfg0.N), gain m c ⟨t.val, ht⟩ = ((A t * (5 / 4 / 524288) : ℝ) : EReal) := by
    intro t ht
    rw [hg t ht, ← hA]
  have hT : total s0 s1 s2 = (∑ t, A t) * (5 / 4 / 524288) := by
    unfold total
    rw [sum_rows, ← hA]
  rw [hT]
  simp only [upTo]
  have e : ∀ (n : ℕ) (hn : n < 8) (ht : n < cfg0.N), gain m c ⟨n, ht⟩ = ((A ⟨n, hn⟩ * (5 / 4 / 524288) : ℝ) : EReal) :=
    fun n hn ht => hg' ⟨n, hn⟩ ht
  rw [e 0 (by norm_num), e (0 + 1) (by norm_num), e (1 + 1) (by norm_num), e (2 + 1) (by norm_num), e (3 + 1) (by norm_num),
    e (4 + 1) (by norm_num), e (5 + 1) (by norm_num), e (6 + 1) (by norm_num), zero_add]
  simp only [← EReal.coe_add]
  refine congrArg Real.toEReal ?_
  rw [Fin.sum_univ_eight]
  show A 0 * _ + A 1 * _ + A 2 * _ + A 3 * _ + A 4 * _ + A 5 * _ + A 6 * _ + A 7 * _ = _
  ring

end Cert.KernelIdeal.Hand

end
end
-- ==== Proof.Meet.lean ====
module
public import proofs.«01_k».proof.Proof.RefRound
public import proofs.«01_k».proof.Proof.Loss

/-! The reference as a whole, told in the words of the kernel's rows. -/

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.Rows

variable (V : Valuation τ sig (Elt Ideal))

theorem keep_e_arg9 : after (ops.take 27) V (Proc.devRef .tc main_arg9) = V (Proc.devRef .tc main_arg9) := by
  after_reads_simp

theorem keep_e_arg10 : after (ops.take 27) V (Proc.devRef .tc main_arg10) = V (Proc.devRef .tc main_arg10) := by
  after_reads_simp

theorem keep_e_arg11 : after (ops.take 27) V (Proc.devRef .tc main_arg11) = V (Proc.devRef .tc main_arg11) := by
  after_reads_simp

theorem keep_e_arg12 : after (ops.take 27) V (Proc.devRef .tc main_arg12) = V (Proc.devRef .tc main_arg12) := by
  after_reads_simp

theorem keep_e_arg13 : after (ops.take 27) V (Proc.devRef .tc main_arg13) = V (Proc.devRef .tc main_arg13) := by
  after_reads_simp

theorem keep_e_arg14 : after (ops.take 27) V (Proc.devRef .tc main_arg14) = V (Proc.devRef .tc main_arg14) := by
  after_reads_simp

theorem keep_e_arg15 : after (ops.take 27) V (Proc.devRef .tc main_arg15) = V (Proc.devRef .tc main_arg15) := by
  after_reads_simp

theorem keep_e_arg16 : after (ops.take 27) V (Proc.devRef .tc main_arg16) = V (Proc.devRef .tc main_arg16) := by
  after_reads_simp

theorem keep_e_arg17 : after (ops.take 27) V (Proc.devRef .tc main_arg17) = V (Proc.devRef .tc main_arg17) := by
  after_reads_simp

/-- After the encoder. -/
def V1 : Valuation τ sig (Elt Ideal) := after (ops.take 27) V
/-- After the first round. -/
def V2 : Valuation τ sig (Elt Ideal) := after ((ops.drop 27).take 68) (V1 V)
/-- After the second round. -/
def V3 : Valuation τ sig (Elt Ideal) := after ((ops.drop 95).take 67) (V2 V)
/-- After the third round. -/
def V4 : Valuation τ sig (Elt Ideal) := after ((ops.drop 162).take 67) (V3 V)

theorem after_all : after ops V = after ((ops.drop 229).take 30) (V4 V) := by
  have h : ops = (ops.drop 0).take (27 + (68 + (67 + (67 + 30)))) := by
    have hl : ops.length ≤ 27 + (68 + (67 + (67 + 30))) := le_of_eq rfl
    rw [List.drop_zero]
    exact (List.take_of_length_le hl).symm
  refine (congrArg (fun l => after l V) h).trans ?_
  exact (cut V 0 27 (68 + (67 + (67 + 30)))).trans ((cut _ 27 68 (67 + (67 + 30))).trans
    ((cut _ 95 67 (67 + 30)).trans (cut _ 162 67 30)))

theorem held_arg9 : V1 V (Proc.devRef .tc main_arg9) = V (Proc.devRef .tc main_arg9) ∧ V2 V (Proc.devRef .tc main_arg9) = V (Proc.devRef .tc main_arg9) ∧ V3 V (Proc.devRef .tc main_arg9) = V (Proc.devRef .tc main_arg9) ∧ V4 V (Proc.devRef .tc main_arg9) = V (Proc.devRef .tc main_arg9) := by
  have h1 : V1 V (Proc.devRef .tc main_arg9) = V (Proc.devRef .tc main_arg9) := keep_e_arg9 V
  have h2 : V2 V (Proc.devRef .tc main_arg9) = V (Proc.devRef .tc main_arg9) := (keep_0_w_arg9 (V1 V)).trans h1
  have h3 : V3 V (Proc.devRef .tc main_arg9) = V (Proc.devRef .tc main_arg9) := (keep_1_w_arg9 (V2 V)).trans h2
  exact ⟨h1, h2, h3, (keep_2_w_arg9 (V3 V)).trans h3⟩

theorem held_arg10 : V1 V (Proc.devRef .tc main_arg10) = V (Proc.devRef .tc main_arg10) ∧ V2 V (Proc.devRef .tc main_arg10) = V (Proc.devRef .tc main_arg10) ∧ V3 V (Proc.devRef .tc main_arg10) = V (Proc.devRef .tc main_arg10) ∧ V4 V (Proc.devRef .tc main_arg10) = V (Proc.devRef .tc main_arg10) := by
  have h1 : V1 V (Proc.devRef .tc main_arg10) = V (Proc.devRef .tc main_arg10) := keep_e_arg10 V
  have h2 : V2 V (Proc.devRef .tc main_arg10) = V (Proc.devRef .tc main_arg10) := (keep_0_w_arg10 (V1 V)).trans h1
  have h3 : V3 V (Proc.devRef .tc main_arg10) = V (Proc.devRef .tc main_arg10) := (keep_1_w_arg10 (V2 V)).trans h2
  exact ⟨h1, h2, h3, (keep_2_w_arg10 (V3 V)).trans h3⟩

theorem held_arg11 : V1 V (Proc.devRef .tc main_arg11) = V (Proc.devRef .tc main_arg11) ∧ V2 V (Proc.devRef .tc main_arg11) = V (Proc.devRef .tc main_arg11) ∧ V3 V (Proc.devRef .tc main_arg11) = V (Proc.devRef .tc main_arg11) ∧ V4 V (Proc.devRef .tc main_arg11) = V (Proc.devRef .tc main_arg11) := by
  have h1 : V1 V (Proc.devRef .tc main_arg11) = V (Proc.devRef .tc main_arg11) := keep_e_arg11 V
  have h2 : V2 V (Proc.devRef .tc main_arg11) = V (Proc.devRef .tc main_arg11) := (keep_0_w_arg11 (V1 V)).trans h1
  have h3 : V3 V (Proc.devRef .tc main_arg11) = V (Proc.devRef .tc main_arg11) := (keep_1_w_arg11 (V2 V)).trans h2
  exact ⟨h1, h2, h3, (keep_2_w_arg11 (V3 V)).trans h3⟩

theorem held_arg12 : V1 V (Proc.devRef .tc main_arg12) = V (Proc.devRef .tc main_arg12) ∧ V2 V (Proc.devRef .tc main_arg12) = V (Proc.devRef .tc main_arg12) ∧ V3 V (Proc.devRef .tc main_arg12) = V (Proc.devRef .tc main_arg12) ∧ V4 V (Proc.devRef .tc main_arg12) = V (Proc.devRef .tc main_arg12) := by
  have h1 : V1 V (Proc.devRef .tc main_arg12) = V (Proc.devRef .tc main_arg12) := keep_e_arg12 V
  have h2 : V2 V (Proc.devRef .tc main_arg12) = V (Proc.devRef .tc main_arg12) := (keep_0_w_arg12 (V1 V)).trans h1
  have h3 : V3 V (Proc.devRef .tc main_arg12) = V (Proc.devRef .tc main_arg12) := (keep_1_w_arg12 (V2 V)).trans h2
  exact ⟨h1, h2, h3, (keep_2_w_arg12 (V3 V)).trans h3⟩

theorem held_arg13 : V1 V (Proc.devRef .tc main_arg13) = V (Proc.devRef .tc main_arg13) ∧ V2 V (Proc.devRef .tc main_arg13) = V (Proc.devRef .tc main_arg13) ∧ V3 V (Proc.devRef .tc main_arg13) = V (Proc.devRef .tc main_arg13) ∧ V4 V (Proc.devRef .tc main_arg13) = V (Proc.devRef .tc main_arg13) := by
  have h1 : V1 V (Proc.devRef .tc main_arg13) = V (Proc.devRef .tc main_arg13) := keep_e_arg13 V
  have h2 : V2 V (Proc.devRef .tc main_arg13) = V (Proc.devRef .tc main_arg13) := (keep_0_w_arg13 (V1 V)).trans h1
  have h3 : V3 V (Proc.devRef .tc main_arg13) = V (Proc.devRef .tc main_arg13) := (keep_1_w_arg13 (V2 V)).trans h2
  exact ⟨h1, h2, h3, (keep_2_w_arg13 (V3 V)).trans h3⟩

theorem held_arg14 : V1 V (Proc.devRef .tc main_arg14) = V (Proc.devRef .tc main_arg14) ∧ V2 V (Proc.devRef .tc main_arg14) = V (Proc.devRef .tc main_arg14) ∧ V3 V (Proc.devRef .tc main_arg14) = V (Proc.devRef .tc main_arg14) ∧ V4 V (Proc.devRef .tc main_arg14) = V (Proc.devRef .tc main_arg14) := by
  have h1 : V1 V (Proc.devRef .tc main_arg14) = V (Proc.devRef .tc main_arg14) := keep_e_arg14 V
  have h2 : V2 V (Proc.devRef .tc main_arg14) = V (Proc.devRef .tc main_arg14) := (keep_0_w_arg14 (V1 V)).trans h1
  have h3 : V3 V (Proc.devRef .tc main_arg14) = V (Proc.devRef .tc main_arg14) := (keep_1_w_arg14 (V2 V)).trans h2
  exact ⟨h1, h2, h3, (keep_2_w_arg14 (V3 V)).trans h3⟩

theorem held_arg15 : V1 V (Proc.devRef .tc main_arg15) = V (Proc.devRef .tc main_arg15) ∧ V2 V (Proc.devRef .tc main_arg15) = V (Proc.devRef .tc main_arg15) ∧ V3 V (Proc.devRef .tc main_arg15) = V (Proc.devRef .tc main_arg15) ∧ V4 V (Proc.devRef .tc main_arg15) = V (Proc.devRef .tc main_arg15) := by
  have h1 : V1 V (Proc.devRef .tc main_arg15) = V (Proc.devRef .tc main_arg15) := keep_e_arg15 V
  have h2 : V2 V (Proc.devRef .tc main_arg15) = V (Proc.devRef .tc main_arg15) := (keep_0_w_arg15 (V1 V)).trans h1
  have h3 : V3 V (Proc.devRef .tc main_arg15) = V (Proc.devRef .tc main_arg15) := (keep_1_w_arg15 (V2 V)).trans h2
  exact ⟨h1, h2, h3, (keep_2_w_arg15 (V3 V)).trans h3⟩

theorem held_arg16 : V1 V (Proc.devRef .tc main_arg16) = V (Proc.devRef .tc main_arg16) ∧ V2 V (Proc.devRef .tc main_arg16) = V (Proc.devRef .tc main_arg16) ∧ V3 V (Proc.devRef .tc main_arg16) = V (Proc.devRef .tc main_arg16) ∧ V4 V (Proc.devRef .tc main_arg16) = V (Proc.devRef .tc main_arg16) := by
  have h1 : V1 V (Proc.devRef .tc main_arg16) = V (Proc.devRef .tc main_arg16) := keep_e_arg16 V
  have h2 : V2 V (Proc.devRef .tc main_arg16) = V (Proc.devRef .tc main_arg16) := (keep_0_w_arg16 (V1 V)).trans h1
  have h3 : V3 V (Proc.devRef .tc main_arg16) = V (Proc.devRef .tc main_arg16) := (keep_1_w_arg16 (V2 V)).trans h2
  exact ⟨h1, h2, h3, (keep_2_w_arg16 (V3 V)).trans h3⟩

theorem held_arg17 : V1 V (Proc.devRef .tc main_arg17) = V (Proc.devRef .tc main_arg17) ∧ V2 V (Proc.devRef .tc main_arg17) = V (Proc.devRef .tc main_arg17) ∧ V3 V (Proc.devRef .tc main_arg17) = V (Proc.devRef .tc main_arg17) ∧ V4 V (Proc.devRef .tc main_arg17) = V (Proc.devRef .tc main_arg17) := by
  have h1 : V1 V (Proc.devRef .tc main_arg17) = V (Proc.devRef .tc main_arg17) := keep_e_arg17 V
  have h2 : V2 V (Proc.devRef .tc main_arg17) = V (Proc.devRef .tc main_arg17) := (keep_0_w_arg17 (V1 V)).trans h1
  have h3 : V3 V (Proc.devRef .tc main_arg17) = V (Proc.devRef .tc main_arg17) := (keep_1_w_arg17 (V2 V)).trans h2
  exact ⟨h1, h2, h3, (keep_2_w_arg17 (V3 V)).trans h3⟩

/-- The kernel's tables, from what the reference's arguments hold. -/
def parOf : Par := Cert.KernelIdeal.Hand.prepared (mat (n := 768) (k := 512) (V (Proc.devRef .tc main_arg1))) (mat (n := 512) (k := 256) (V (Proc.devRef .tc main_arg3)))
  (mat (n := 256) (k := 128) (V (Proc.devRef .tc main_arg5))) (mat (n := 128) (k := 32) (V (Proc.devRef .tc main_arg7)))
  (mat (n := 32) (k := 128) (V (Proc.devRef .tc main_arg9))) (mat (n := 128) (k := 256) (V (Proc.devRef .tc main_arg11)))
  (mat (n := 256) (k := 512) (V (Proc.devRef .tc main_arg13))) (mat (n := 512) (k := 768) (V (Proc.devRef .tc main_arg15))) (book V)
/-- One of the reference's rows. -/
def xs (p : Fin 16384) : Row 768 := mat (n := 16384) (k := 768) (V (Proc.devRef .tc main_arg0)) p

/-- What the claim supposes of the arguments: finite rows, encoder weights and code words, and no offsets. -/
structure Good : Prop where
  x : ∀ p, FineRow (xs V p)
  w0 : ∀ i, FineRow (mat (n := 768) (k := 512) (V (Proc.devRef .tc main_arg1)) i)
  w1 : ∀ i, FineRow (mat (n := 512) (k := 256) (V (Proc.devRef .tc main_arg3)) i)
  w2 : ∀ i, FineRow (mat (n := 256) (k := 128) (V (Proc.devRef .tc main_arg5)) i)
  w3 : ∀ i, FineRow (mat (n := 128) (k := 32) (V (Proc.devRef .tc main_arg7)) i)
  c : ∀ i k, FineRow (book V i k)
  b0 : ∀ j : Fin 512, (V (Proc.devRef .tc main_arg2) : Vec Ideal S512 .f32) (ix1 j) = (0 : EReal)
  b1 : ∀ j : Fin 256, (V (Proc.devRef .tc main_arg4) : Vec Ideal S256 .f32) (ix1 j) = (0 : EReal)
  b2 : ∀ j : Fin 128, (V (Proc.devRef .tc main_arg6) : Vec Ideal S128 .f32) (ix1 j) = (0 : EReal)
  b3 : ∀ j : Fin 32, (V (Proc.devRef .tc main_arg8) : Vec Ideal S32 .f32) (ix1 j) = (0 : EReal)
  e0 : ∀ j : Fin 128, (V (Proc.devRef .tc main_arg10) : Vec Ideal S128 .f32) (ix1 j) = (0 : EReal)
  e1 : ∀ j : Fin 256, (V (Proc.devRef .tc main_arg12) : Vec Ideal S256 .f32) (ix1 j) = (0 : EReal)
  e2 : ∀ j : Fin 512, (V (Proc.devRef .tc main_arg14) : Vec Ideal S512 .f32) (ix1 j) = (0 : EReal)
  e3 : ∀ j : Fin 768, (V (Proc.devRef .tc main_arg16) : Vec Ideal S768 .f32) (ix1 j) = (0 : EReal)

/-- The reference's three results in the kernel's words. -/
structure Meets : Prop where
  out : ∀ (p : Fin 16384) (j : Fin 768), (after ops V (Proc.devRef .tc main_v147) : Vec Ideal S16384x768 .f32) (ix2 p j) = (parOf V).out (xs V p) j
  ind : ∀ (p : Fin 16384) (j : Fin 3), (after ops V (Proc.devRef .tc main_v125) : Vec Ideal S16384x3 .i32) (ix2 p j) = Ideal.fptosi 32 ((parOf V).ind (xs V p) j)
  loss : ∃ s0 s1 s2 : Fin 16384 → ℝ, (∀ p, ssq ((parOf V).r1 (xs V p)) = ((s0 p : ℝ) : EReal)) ∧
    (∀ p, ssq ((parOf V).r2 (xs V p)) = ((s1 p : ℝ) : EReal)) ∧ (∀ p, ssq ((parOf V).r3 (xs V p)) = ((s2 p : ℝ) : EReal)) ∧
    (after ops V (Proc.devRef .tc main_v148) : Vec Ideal S1x1 .f32) (ix2 0 0) = ((total s0 s1 s2 : ℝ) : EReal)

theorem book_at (i : Fin 3) : book (V1 V) i = book V i ∧ book (V2 V) i = book V i ∧ book (V3 V) i = book V i := by
  obtain ⟨h1, h2, h3, _⟩ := held_arg17 V
  unfold book
  rw [h1, h2, h3]
  exact ⟨rfl, rfl, rfl⟩

variable {V}

theorem meets (h : Good V) : Meets V := by
  -- the encoder
  have hr0 : ∀ p, mat (n := 16384) (k := 32) (V1 V (Proc.devRef .tc main_v21)) p = (parOf V).r0 (xs V p) :=
    fun p => funext fun j => encoded V h.b0 h.b1 h.b2 h.b3 p j
  have hz : ∀ p, mat (n := 16384) (k := 32) (V1 V (Proc.devRef .tc main_v22)) p = fun _ => 0 :=
    fun p => funext fun j => start_zero V p j
  have f0 : ∀ p, FineRow ((parOf V).r0 (xs V p)) := fun p => fine_enc h.w0 h.w1 h.w2 h.w3 (h.x p)
  -- the first round
  obtain ⟨K0, k0, i0, q0, a0, l0⟩ := round_0 (V1 V)
  rw [(book_at V 0).1] at k0 q0 a0 l0
  rw [show mat (n := 16384) (k := 32) (V1 V (Proc.devRef .tc main_v21)) = fun p => (parOf V).r0 (xs V p) from funext hr0] at k0 q0 a0 l0
  have g0 := fun p => round_agree (h.c 0) (f0 p) (k0 p)
  have hr1 : ∀ p, mat (n := 16384) (k := 32) (V2 V (Proc.devRef .tc main_v55)) p = (parOf V).r1 (xs V p) := fun p =>
    (q0 p).trans ((congrArg (sub _) (reach_eq (f0 p) (h.c 0 (K0 p)))).trans (g0 p).2.2.symm)
  have hx1 : ∀ p, mat (n := 16384) (k := 32) (V2 V (Proc.devRef .tc main_v54)) p
      = add (fun _ => 0) (pickw (parOf V).t0 (parOf V).n0 (parOf V).s0 ((parOf V).r0 (xs V p))) := fun p =>
    (a0 p).trans (by
      rw [hz]
      exact congrArg (add _) ((reach_eq (f0 p) (h.c 0 (K0 p))).trans (g0 p).2.1.symm))
  have f1 : ∀ p, FineRow ((parOf V).r1 (xs V p)) := fun p =>
    ((g0 p).2.2.symm ▸ fine_subrow (f0 p) (h.c 0 (K0 p)) : FineRow (rest _ _ _ _))
  -- the second round
  obtain ⟨K1, k1, i1, q1, a1, l1⟩ := round_1 (V2 V)
  rw [(book_at V 1).2.1] at k1 q1 a1 l1
  rw [show mat (n := 16384) (k := 32) (V2 V (Proc.devRef .tc main_v55)) = fun p => (parOf V).r1 (xs V p) from funext hr1] at k1 q1 a1 l1
  have g1 := fun p => round_agree (h.c 1) (f1 p) (k1 p)
  have hr2 : ∀ p, mat (n := 16384) (k := 32) (V3 V (Proc.devRef .tc main_v88)) p = (parOf V).r2 (xs V p) := fun p =>
    (q1 p).trans ((congrArg (sub _) (reach_eq (f1 p) (h.c 1 (K1 p)))).trans (g1 p).2.2.symm)
  have hx2 : ∀ p, mat (n := 16384) (k := 32) (V3 V (Proc.devRef .tc main_v87)) p
      = add (add (fun _ => 0) (pickw (parOf V).t0 (parOf V).n0 (parOf V).s0 ((parOf V).r0 (xs V p))))
          (pickw (parOf V).t1 (parOf V).n1 (parOf V).s1 ((parOf V).r1 (xs V p))) := fun p =>
    (a1 p).trans (by
      rw [hx1]
      exact congrArg (add _) ((reach_eq (f1 p) (h.c 1 (K1 p))).trans (g1 p).2.1.symm))
  have f2 : ∀ p, FineRow ((parOf V).r2 (xs V p)) := fun p =>
    ((g1 p).2.2.symm ▸ fine_subrow (f1 p) (h.c 1 (K1 p)) : FineRow (rest _ _ _ _))
  -- the third round
  obtain ⟨K2, k2, i2, q2, a2, l2⟩ := round_2 (V3 V)
  rw [(book_at V 2).2.2] at k2 q2 a2 l2
  rw [show mat (n := 16384) (k := 32) (V3 V (Proc.devRef .tc main_v88)) = fun p => (parOf V).r2 (xs V p) from funext hr2] at k2 q2 a2 l2
  have g2 := fun p => round_agree (h.c 2) (f2 p) (k2 p)
  have hx3 : ∀ p, mat (n := 16384) (k := 32) (V4 V (Proc.devRef .tc main_v120)) p = (parOf V).xq (xs V p) := fun p =>
    (a2 p).trans (by
      rw [hx2]
      exact congrArg (add _) ((reach_eq (f2 p) (h.c 2 (K2 p))).trans (g2 p).2.1.symm))
  have f3 : ∀ p, FineRow ((parOf V).r3 (xs V p)) := fun p =>
    ((g2 p).2.2.symm ▸ fine_subrow (f2 p) (h.c 2 (K2 p)) : FineRow (rest _ _ _ _))
  refine ⟨fun p j => ?_, fun p j => ?_, ?_⟩
  · rw [after_all]
    have e0 : ∀ j : Fin 128, (V4 V (Proc.devRef .tc main_arg10) : Vec Ideal S128 .f32) (ix1 j) = (0 : EReal) := by
      rw [(held_arg10 V).2.2.2]; exact h.e0
    have e1 : ∀ j : Fin 256, (V4 V (Proc.devRef .tc main_arg12) : Vec Ideal S256 .f32) (ix1 j) = (0 : EReal) := by
      rw [(held_arg12 V).2.2.2]; exact h.e1
    have e2 : ∀ j : Fin 512, (V4 V (Proc.devRef .tc main_arg14) : Vec Ideal S512 .f32) (ix1 j) = (0 : EReal) := by
      rw [(held_arg14 V).2.2.2]; exact h.e2
    have e3 : ∀ j : Fin 768, (V4 V (Proc.devRef .tc main_arg16) : Vec Ideal S768 .f32) (ix1 j) = (0 : EReal) := by
      rw [(held_arg16 V).2.2.2]; exact h.e3
    refine (decoded (V4 V) e0 e1 e2 e3 p j).trans ?_
    rw [hx3, (held_arg9 V).2.2.2, (held_arg11 V).2.2.2, (held_arg13 V).2.2.2, (held_arg15 V).2.2.2]
    rfl
  · rw [after_all]
    have hs : after ((ops.drop 229).take 30) (V4 V) = after ((ops.drop 233).take 26) (after ((ops.drop 232).take 1) (after ((ops.drop 229).take 3) (V4 V))) :=
      (cut (V4 V) 229 3 27).trans (cut _ 232 1 26)
    rw [hs, side_kept]
    refine (side _ p j).trans ?_
    rw [col_0, col_1, col_2]
    have c0 : (V4 V (Proc.devRef .tc main_v39) : Vec Ideal S16384 .i32) (ix1 p) = Ideal.fptosi 32 (code (parOf V).t0 (parOf V).n0 ((parOf V).r0 (xs V p))) := by
      have : V4 V (Proc.devRef .tc main_v39) = V2 V (Proc.devRef .tc main_v39) := (keep_2_w_v39 (V3 V)).trans (keep_1_w_v39 (V2 V))
      rw [this]
      exact (i0 p).trans ((toWord _).symm.trans (congrArg _ (g0 p).1.symm))
    have c1 : (V4 V (Proc.devRef .tc main_v72) : Vec Ideal S16384 .i32) (ix1 p) = Ideal.fptosi 32 (code (parOf V).t1 (parOf V).n1 ((parOf V).r1 (xs V p))) := by
      have : V4 V (Proc.devRef .tc main_v72) = V3 V (Proc.devRef .tc main_v72) := keep_2_w_v72 (V3 V)
      rw [this]
      exact (i1 p).trans ((toWord _).symm.trans (congrArg _ (g1 p).1.symm))
    have c2 : (V4 V (Proc.devRef .tc main_v105) : Vec Ideal S16384 .i32) (ix1 p) = Ideal.fptosi 32 (code (parOf V).t2 (parOf V).n2 ((parOf V).r2 (xs V p))) :=
      (i2 p).trans ((toWord _).symm.trans (congrArg _ (g2 p).1.symm))
    rw [c0, c1, c2]
    match j with
    | ⟨0, _⟩ => rfl
    | ⟨1, _⟩ => rfl
    | ⟨2, _⟩ => rfl
  · choose s0 hs0 using fun p => fine_ssq (f1 p)
    choose s1 hs1 using fun p => fine_ssq (f2 p)
    choose s2 hs2 using fun p => fine_ssq (f3 p)
    refine ⟨s0, s1, s2, hs0, hs1, hs2, ?_⟩
    rw [after_all]
    refine (loss_out (V4 V)).trans (l2.trans ?_)
    have l1' : (V3 V (Proc.devRef .tc main_v84) : Vec Ideal S_ .f32) ix0 = _ := l1
    have l0' : (V2 V (Proc.devRef .tc main_v51) : Vec Ideal S_ .f32) ix0 = _ := l0
    rw [l1', l0']
    refine ref_loss _ _ _ _ _ _ s0 s1 s2 (fun p => ?_) (fun p => ?_) (fun p => ?_)
    · exact (congrArg ssq (g0 p).2.2.symm).trans (hs0 p)
    · exact (congrArg ssq (g1 p).2.2.symm).trans (hs1 p)
    · exact (congrArg ssq (g2 p).2.2.symm).trans (hs2 p)

end Cert.ReferenceIdeal.Hand

end
end
-- ==== Proof.PreOk.lean ====
module
public import proofs.«01_k».proof.Defs
public import proofs.«01_k».proof.Proof.Meet

/-! The precondition, read; and from it, that both programs leave the same three results. -/

@[expose] public section

set_option maxRecDepth 16384

noncomputable section

namespace Cert.Pre_inputs_ok

open Idealize.ShloMosaic Cert.Rows

instance facts : Facts where
  bcast_S_S16384x768 := by decide
  bcast_S_S768x512 := by decide
  bcast_S_S512x256 := by decide
  bcast_S_S256x128 := by decide
  bcast_S_S128x32 := by decide
  bcast_S_S3x256x32 := by decide
  bcast_S_S512 := by decide
  bcast_S_S256 := by decide
  bcast_S_S128 := by decide
  bcast_S_S32 := by decide
  bcast_S_S768 := by decide

/-- A number of absolute value below infinity is finite. -/
theorem fine_of_abs {x : EReal} (h : max x (-x) < ⊤) : Fine x := by
  refine ⟨x.toReal, (EReal.coe_toReal ?_ ?_).symm⟩
  · rintro rfl
    exact absurd h (by simp)
  · rintro rfl
    exact absurd h (by simp)

/-- The first comparison of the precondition: every entry is finite. -/
theorem fine_of {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) : Fine (x i) := by
  have h1 : Ideal.cmp .olt (max (x i : EReal) (-(x i : EReal))) (Ideal.ofBits FTy.f32 0x7F800000#32) = 1#1 := congrFun h i
  rw [Cert.ReferenceIdeal.Hand.ofBits_inf] at h1
  by_cases hx : max (x i : EReal) (-(x i : EReal)) < ⊤
  · exact fine_of_abs hx
  · simp [Ideal.cmp, hx] at h1

/-- The second comparison of the precondition: every entry is zero. -/
theorem zero_of {s : Shape} (x : FVec Ideal s .f32) (hb : S_.BroadcastsInDim s (![] : Fin 0 → Fin s.rank))
    (h : cmpf .oeq x (broadcastInDim s ![] hb (constant S_ .f32 0x00000000#32)) = fun _ => 1#1) (i : s.Idx) : x i = (0 : EReal) := by
  have h1 : Ideal.cmp .oeq (x i : EReal) (Ideal.ofBits FTy.f32 0x00000000#32) = 1#1 := congrFun h i
  have h0 : Ideal.ofBits FTy.f32 0x00000000#32 = 0 := by simp [Ideal.ofBits, Ideal.ieee]
  rw [h0] at h1
  by_contra hx
  simp [Ideal.cmp, hx] at h1

end Cert.Pre_inputs_ok

namespace Cert.Same

open Idealize.ShloMosaic Idealize.ShloMosaic.TcCoe Idealize.ShloMosaic.StableHlo Idealize.SL.Sem Cert.Rows

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- Both memories hold the same arguments. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

variable {m m' c}

theorem good (hpre : Cert.Pre_KernelIdeal_inputs_ok m) (hag : Agree m m' c) :
    Cert.ReferenceIdeal.Hand.Good (launchContents m' c) := by
  obtain ⟨h0, h1, h2, h3, h4, h5, g0, g1, g2, g3, g4, g5, g6, g7⟩ := hpre c
  refine ⟨fun p j => ?_, fun i j => ?_, fun i j => ?_, fun i j => ?_, fun i j => ?_, fun i k j => ?_, fun j => ?_, fun j => ?_, fun j => ?_, fun j => ?_, fun j => ?_, fun j => ?_, fun j => ?_, fun j => ?_⟩
  · exact (congrArg (fun A : FVec Ideal Cert.Pre_inputs_ok.S16384x768 .f32 => Fine (A (ix2 p j))) hag.a0).mpr (Cert.Pre_inputs_ok.fine_of _ _ h0 _)
  · exact (congrArg (fun A : FVec Ideal Cert.Pre_inputs_ok.S768x512 .f32 => Fine (A (ix2 i j))) hag.a1).mpr (Cert.Pre_inputs_ok.fine_of _ _ h1 _)
  · exact (congrArg (fun A : FVec Ideal Cert.Pre_inputs_ok.S512x256 .f32 => Fine (A (ix2 i j))) hag.a3).mpr (Cert.Pre_inputs_ok.fine_of _ _ h2 _)
  · exact (congrArg (fun A : FVec Ideal Cert.Pre_inputs_ok.S256x128 .f32 => Fine (A (ix2 i j))) hag.a5).mpr (Cert.Pre_inputs_ok.fine_of _ _ h3 _)
  · exact (congrArg (fun A : FVec Ideal Cert.Pre_inputs_ok.S128x32 .f32 => Fine (A (ix2 i j))) hag.a7).mpr (Cert.Pre_inputs_ok.fine_of _ _ h4 _)
  · exact (congrArg (fun A : FVec Ideal Cert.Pre_inputs_ok.S3x256x32 .f32 => Fine (A (ix3 i k j))) hag.a17).mpr (Cert.Pre_inputs_ok.fine_of _ _ h5 _)
  · exact (congrFun hag.a2 (ix1 j)).trans (Cert.Pre_inputs_ok.zero_of (s := Cert.Pre_inputs_ok.S512) _ _ g0 (ix1 j))
  · exact (congrFun hag.a4 (ix1 j)).trans (Cert.Pre_inputs_ok.zero_of (s := Cert.Pre_inputs_ok.S256) _ _ g1 (ix1 j))
  · exact (congrFun hag.a6 (ix1 j)).trans (Cert.Pre_inputs_ok.zero_of (s := Cert.Pre_inputs_ok.S128) _ _ g2 (ix1 j))
  · exact (congrFun hag.a8 (ix1 j)).trans (Cert.Pre_inputs_ok.zero_of (s := Cert.Pre_inputs_ok.S32) _ _ g3 (ix1 j))
  · exact (congrFun hag.a10 (ix1 j)).trans (Cert.Pre_inputs_ok.zero_of (s := Cert.Pre_inputs_ok.S128) _ _ g4 (ix1 j))
  · exact (congrFun hag.a12 (ix1 j)).trans (Cert.Pre_inputs_ok.zero_of (s := Cert.Pre_inputs_ok.S256) _ _ g5 (ix1 j))
  · exact (congrFun hag.a14 (ix1 j)).trans (Cert.Pre_inputs_ok.zero_of (s := Cert.Pre_inputs_ok.S512) _ _ g6 (ix1 j))
  · exact (congrFun hag.a16 (ix1 j)).trans (Cert.Pre_inputs_ok.zero_of (s := Cert.Pre_inputs_ok.S768) _ _ g7 (ix1 j))

theorem tables (hag : Agree m m' c) : Cert.ReferenceIdeal.Hand.parOf (launchContents m' c) = Cert.KernelIdeal.Hand.tabs m c := by
  unfold Cert.ReferenceIdeal.Hand.parOf Cert.KernelIdeal.Hand.tabs
  have hb : Cert.ReferenceIdeal.Hand.book (launchContents m' c) = fun r k i =>
      m ((c : Thread Cert.KernelIdeal.nD Cert.KernelIdeal.τ).loc Cert.KernelIdeal.main_arg17) (ix3 (n0 := 3) (n1 := 256) (n2 := 32) r k i) :=
    congrArg (fun (A : FVec Ideal Cert.Pre_inputs_ok.S3x256x32 .f32) (r : Fin 3) (k : Fin 256) (i : Fin 32) => A (ix3 r k i)) hag.a17
  rw [hb]
  have e1 := congrArg (mat (n := 768) (k := 512)) hag.a1
  have e3 := congrArg (mat (n := 512) (k := 256)) hag.a3
  have e5 := congrArg (mat (n := 256) (k := 128)) hag.a5
  have e7 := congrArg (mat (n := 128) (k := 32)) hag.a7
  have e9 := congrArg (mat (n := 32) (k := 128)) hag.a9
  have e11 := congrArg (mat (n := 128) (k := 256)) hag.a11
  have e13 := congrArg (mat (n := 256) (k := 512)) hag.a13
  have e15 := congrArg (mat (n := 512) (k := 768)) hag.a15
  rw [← e1, ← e3, ← e5, ← e7, ← e9, ← e11, ← e13, ← e15]

theorem rows (hag : Agree m m' c) (p : Fin 16384) : Cert.ReferenceIdeal.Hand.xs (launchContents m' c) p = Cert.KernelIdeal.Hand.rowOf m c p :=
  congrArg (fun A => mat (n := 16384) (k := 768) A p) hag.a0

/-- The reconstruction. -/
theorem out_eq (hpre : Cert.Pre_KernelIdeal_inputs_ok m) (hag : Agree m m' c) :
    after Cert.ReferenceIdeal.Hand.ops (launchContents m' c) (Proc.devRef .tc Cert.ReferenceIdeal.main_v147) = Cert.KernelIdeal.Value.G10 m c := by
  refine funext fun (i : (⟨2, ![16384, 768]⟩ : Shape).Idx) => ?_
  obtain ⟨p, j, rfl⟩ : ∃ (p : Fin 16384) (j : Fin 768), i = ix2 p j := ⟨i 0, i 1, (ix2_eta i).symm⟩
  refine ((Cert.ReferenceIdeal.Hand.meets (good hpre hag)).out p j).trans ?_
  rw [tables hag, rows hag]
  exact (Cert.KernelIdeal.Hand.G10_eq m c p j).symm

/-- The numbers of the chosen words. -/
theorem ind_eq (hpre : Cert.Pre_KernelIdeal_inputs_ok m) (hag : Agree m m' c) :
    after Cert.ReferenceIdeal.Hand.ops (launchContents m' c) (Proc.devRef .tc Cert.ReferenceIdeal.main_v125) = Cert.KernelIdeal.Value.G11 m c := by
  refine funext fun (i : (⟨2, ![16384, 3]⟩ : Shape).Idx) => ?_
  obtain ⟨p, j, rfl⟩ : ∃ (p : Fin 16384) (j : Fin 3), i = ix2 p j := ⟨i 0, i 1, (ix2_eta i).symm⟩
  refine ((Cert.ReferenceIdeal.Hand.meets (good hpre hag)).ind p j).trans ?_
  rw [tables hag, rows hag]
  exact (Cert.KernelIdeal.Hand.G11_eq m c p j).symm

/-- The loss. -/
theorem loss_eq (hpre : Cert.Pre_KernelIdeal_inputs_ok m) (hag : Agree m m' c) :
    after Cert.ReferenceIdeal.Hand.ops (launchContents m' c) (Proc.devRef .tc Cert.ReferenceIdeal.main_v148) = Cert.KernelIdeal.Value.G12 m c := by
  refine funext fun (i : (⟨2, ![1, 1]⟩ : Shape).Idx) => ?_
  obtain ⟨p, j, rfl⟩ : ∃ (p : Fin 1) (j : Fin 1), i = ix2 p j := ⟨i 0, i 1, (ix2_eta i).symm⟩
  obtain rfl : p = 0 := Subsingleton.elim _ _
  obtain rfl : j = 0 := Subsingleton.elim _ _
  obtain ⟨s0, s1, s2, h0, h1, h2, h⟩ := (Cert.ReferenceIdeal.Hand.meets (good hpre hag)).loss
  simp only [tables hag, rows hag] at h0 h1 h2
  exact h.trans ((Cert.KernelIdeal.Hand.ker_loss m c s0 s1 s2 h0 h1 h2 _).symm.trans (Cert.KernelIdeal.Hand.G12_eq m c).symm)

end Cert.Same

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefOps
public import proofs.«01_k».proof.Proof.PreOk
public import Idealize.ShloMosaic.Adequacy
public import Idealize.ShloMosaic.Init

@[expose] public section

noncomputable section

namespace Cert.Proof

open Idealize.ShloMosaic Idealize.SL.Sem Cert.Kernel

/-- The reference runs, leaves its arguments as they were, and ends quiet. -/
theorem ref_frame : Cert.quiescent_ReferenceIdeal :=
  fun m ρ _ => (θ_run Cert.ReferenceIdeal.defs _ _).mono (fun r h =>
    ⟨fun c => Cert.ReferenceIdeal.Hand.unchanged m c h, sem_eq_zero_of_no_sems (by decide) r.2⟩) (Cert.ReferenceIdeal.Hand.run m ρ)

/-- Both programs leave the same reconstruction, the same numbers of words and the same loss. -/
theorem same : Cert.algebraic_KernelIdeal_ReferenceIdeal_pre_inputs_ok := by
  intro m g m' g' hpre hagree
  refine ⟨Cert.KernelIdeal.Value.G10 m, Cert.KernelIdeal.Value.G11 m, Cert.KernelIdeal.Value.G12 m, Cert.KernelIdeal.Value.run m g, ?_⟩
  have hag : ∀ c, Cert.Same.Agree m m' c := fun c => by
    obtain ⟨h0, h1, h2, h3, h4, h5, h6, h7, h8, h9, h10, h11, h12, h13, h14, h15, h16, h17⟩ := hagree c
    exact ⟨h0, h1, h2, h3, h4, h5, h6, h7, h8, h9, h10, h11, h12, h13, h14, h15, h16, h17⟩
  exact (θ_run Cert.ReferenceIdeal.defs _ _).mono (fun r h c =>
    ⟨(h c Cert.ReferenceIdeal.main_v147).trans (Cert.Same.out_eq hpre (hag c)),
      (h c Cert.ReferenceIdeal.main_v125).trans (Cert.Same.ind_eq hpre (hag c)),
      (h c Cert.ReferenceIdeal.main_v148).trans (Cert.Same.loss_eq hpre (hag c)),
      Cert.ReferenceIdeal.Hand.unchanged m' c h⟩) (Cert.ReferenceIdeal.Hand.run m' g')

theorem claim : Cert.Claim := ⟨Cert.Kernel.Gen.facts, Cert.KernelIdeal.Gen.facts, Cert.ReferenceIdeal.Gen.facts, Cert.Pre_inputs_ok.facts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial, trivial, same⟩

end Cert.Proof

end
